-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x576x768 : Shape := ⟨3, ![32, 576, 768]⟩
abbrev S32x72x64 : Shape := ⟨3, ![32, 72, 64]⟩
abbrev S18432x3x2x128 : Shape := ⟨4, ![18432, 3, 2, 128]⟩
abbrev S147456x3x2x128 : Shape := ⟨4, ![147456, 3, 2, 128]⟩
abbrev S8x576 : Shape := ⟨2, ![8, 576]⟩
abbrev S72x64 : Shape := ⟨2, ![72, 64]⟩
abbrev S576 : Shape := ⟨1, ![576]⟩
abbrev S64x3x2x128 : Shape := ⟨4, ![64, 3, 2, 128]⟩
abbrev S_ : Shape := ⟨0, ![]⟩
abbrev S1x72x64 : Shape := ⟨3, ![1, 72, 64]⟩
abbrev S16 : Shape := ⟨1, ![16]⟩
abbrev S1x576 : Shape := ⟨2, ![1, 576]⟩
abbrev S64x1x2x128 : Shape := ⟨4, ![64, 1, 2, 128]⟩
abbrev S64x2x128 : Shape := ⟨3, ![64, 2, 128]⟩
abbrev S1x64 : Shape := ⟨2, ![1, 64]⟩
abbrev S64 : Shape := ⟨1, ![64]⟩
abbrev S147456x1x2x128 : Shape := ⟨4, ![147456, 1, 2, 128]⟩
abbrev S147456x2x128 : Shape := ⟨3, ![147456, 2, 128]⟩
abbrev S8x32x576x768 : Shape := ⟨4, ![8, 32, 576, 768]⟩
abbrev S8 : Shape := ⟨1, ![8]⟩

abbrev nBuf : Table → Nat
  | .hbm => 7
  | .local .scVector .vmem => 4
  | _ => 0

abbrev bufTy : (tb : Table) → Fin (nBuf tb) → BufTy
  | .hbm, ⟨0, _⟩ => ⟨S32x576x768, .f32⟩
  | .hbm, ⟨1, _⟩ => ⟨S32x72x64, .i32⟩
  | .hbm, ⟨2, _⟩ => ⟨S18432x3x2x128, .f32⟩
  | .hbm, ⟨3, _⟩ => ⟨S147456x3x2x128, .f32⟩
  | .hbm, ⟨4, _⟩ => ⟨S8x576, .i32⟩
  | .hbm, ⟨5, _⟩ => ⟨S8x32x576x768, .f32⟩
  | .hbm, ⟨6, _⟩ => ⟨S8, .i32⟩
  | .local .scVector .vmem, ⟨0, _⟩ => ⟨S72x64, .i32⟩
  | .local .scVector .vmem, ⟨1, _⟩ => ⟨S576, .i32⟩
  | .local .scVector .vmem, ⟨2, _⟩ => ⟨S64x3x2x128, .f32⟩
  | .local .scVector .vmem, ⟨3, _⟩ => ⟨S64x3x2x128, .f32⟩
  | _, _ => ⟨S32x576x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_c_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5670_r0 : BitVec 32 := 0#32
  let c0_i32_5671_r0 : BitVec 32 := 0#32
  ![v1.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v26 : BitVec 32 := Scalar.muli v1 c576_i32
  let c0_i32_9 : BitVec 32 := 0#32
  let c0_i32_10 : BitVec 32 := 0#32
  let c0_i32_11 : BitVec 32 := 0#32
  ![v26.toNat, 0, 0, 0]
def k0_off3 (i : grid0.Coords) (c64_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v26 : BitVec 32 := Scalar.muli v1 c576_i32
  let v199 : BitVec 32 := Scalar.addi v26 c64_i32
  let c0_i32_333 : BitVec 32 := 0#32
  let c0_i32_334 : BitVec 32 := 0#32
  let c0_i32_335 : BitVec 32 := 0#32
  ![v199.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x576x768 : Shape := ⟨3, ![32, 576, 768]⟩
abbrev S576 : Shape := ⟨1, ![576]⟩
abbrev S24x24 : Shape := ⟨2, ![24, 24]⟩
abbrev S_ : Shape := ⟨0, ![]⟩
abbrev S576x1 : Shape := ⟨2, ![576, 1]⟩
abbrev S1 : Shape := ⟨1, ![1]⟩
abbrev S1x1 : Shape := ⟨2, ![1, 1]⟩
abbrev S1x32x576x768 : Shape := ⟨4, ![1, 32, 576, 768]⟩
abbrev S8x32x576x768 : Shape := ⟨4, ![8, 32, 576, 768]⟩
abbrev S1x576 : Shape := ⟨2, ![1, 576]⟩
abbrev S8x576 : Shape := ⟨2, ![8, 576]⟩
abbrev S8 : Shape := ⟨1, ![8]⟩

abbrev nBuf : Space → Nat
  | .hbm => 248
  | .vmem => 0
  | .smem => 0
  | _ => 0

abbrev hbmTy0_0 (i : Nat) : BufTy := match i % 128 with
  | 0 => ⟨S32x576x768, .f32⟩
  | 1 => ⟨S576, .i32⟩
  | 2 => ⟨S24x24, .i32⟩
  | 3 => ⟨S576, .i32⟩
  | 4 => ⟨S_, .i32⟩
  | 5 => ⟨S576, .i32⟩
  | 6 => ⟨S576, .i1⟩
  | 7 => ⟨S_, .i32⟩
  | 8 => ⟨S576, .i32⟩
  | 9 => ⟨S576, .i32⟩
  | 10 => ⟨S576, .i32⟩
  | 11 => ⟨S576x1, .i32⟩
  | 12 => ⟨S1, .i32⟩
  | 13 => ⟨S_, .i32⟩
  | 14 => ⟨S576x1, .i32⟩
  | 15 => ⟨S576x1, .i1⟩
  | 16 => ⟨S1x1, .i32⟩
  | 17 => ⟨S576x1, .i32⟩
  | 18 => ⟨S576x1, .i1⟩
  | 19 => ⟨S576x1, .i1⟩
  | 20 => ⟨S_, .i1⟩
  | 21 => ⟨S576, .i1⟩
  | 22 => ⟨S32x576x768, .f32⟩
  | 23 => ⟨S32x576x768, .i1⟩
  | 24 => ⟨S_, .f32⟩
  | 25 => ⟨S32x576x768, .f32⟩
  | 26 => ⟨S32x576x768, .f32⟩
  | 27 => ⟨S576, .i32⟩
  | 28 => ⟨S576, .i32⟩
  | 29 => ⟨S576, .i32⟩
  | 30 => ⟨S24x24, .i32⟩
  | 31 => ⟨S576, .i32⟩
  | 32 => ⟨S_, .i32⟩
  | 33 => ⟨S576, .i32⟩
  | 34 => ⟨S576, .i1⟩
  | 35 => ⟨S_, .i32⟩
  | 36 => ⟨S576, .i32⟩
  | 37 => ⟨S576, .i32⟩
  | 38 => ⟨S576, .i32⟩
  | 39 => ⟨S576x1, .i32⟩
  | 40 => ⟨S1, .i32⟩
  | 41 => ⟨S_, .i32⟩
  | 42 => ⟨S576x1, .i32⟩
  | 43 => ⟨S576x1, .i1⟩
  | 44 => ⟨S1x1, .i32⟩
  | 45 => ⟨S576x1, .i32⟩
  | 46 => ⟨S576x1, .i1⟩
  | 47 => ⟨S576x1, .i1⟩
  | 48 => ⟨S_, .i1⟩
  | 49 => ⟨S576, .i1⟩
  | 50 => ⟨S32x576x768, .f32⟩
  | 51 => ⟨S32x576x768, .i1⟩
  | 52 => ⟨S_, .f32⟩
  | 53 => ⟨S32x576x768, .f32⟩
  | 54 => ⟨S32x576x768, .f32⟩
  | 55 => ⟨S576, .i32⟩
  | 56 => ⟨S576, .i32⟩
  | 57 => ⟨S576, .i32⟩
  | 58 => ⟨S24x24, .i32⟩
  | 59 => ⟨S24x24, .i32⟩
  | 60 => ⟨S576, .i32⟩
  | 61 => ⟨S_, .i32⟩
  | 62 => ⟨S576, .i32⟩
  | 63 => ⟨S576, .i1⟩
  | 64 => ⟨S_, .i32⟩
  | 65 => ⟨S576, .i32⟩
  | 66 => ⟨S576, .i32⟩
  | 67 => ⟨S576, .i32⟩
  | 68 => ⟨S576x1, .i32⟩
  | 69 => ⟨S1, .i32⟩
  | 70 => ⟨S_, .i32⟩
  | 71 => ⟨S576x1, .i32⟩
  | 72 => ⟨S576x1, .i1⟩
  | 73 => ⟨S1x1, .i32⟩
  | 74 => ⟨S576x1, .i32⟩
  | 75 => ⟨S576x1, .i1⟩
  | 76 => ⟨S576x1, .i1⟩
  | 77 => ⟨S_, .i1⟩
  | 78 => ⟨S576, .i1⟩
  | 79 => ⟨S32x576x768, .f32⟩
  | 80 => ⟨S32x576x768, .i1⟩
  | 81 => ⟨S_, .f32⟩
  | 82 => ⟨S32x576x768, .f32⟩
  | 83 => ⟨S32x576x768, .f32⟩
  | 84 => ⟨S576, .i32⟩
  | 85 => ⟨S576, .i32⟩
  | 86 => ⟨S576, .i32⟩
  | 87 => ⟨S24x24, .i32⟩
  | 88 => ⟨S576, .i32⟩
  | 89 => ⟨S_, .i32⟩
  | 90 => ⟨S576, .i32⟩
  | 91 => ⟨S576, .i1⟩
  | 92 => ⟨S_, .i32⟩
  | 93 => ⟨S576, .i32⟩
  | 94 => ⟨S576, .i32⟩
  | 95 => ⟨S576, .i32⟩
  | 96 => ⟨S576x1, .i32⟩
  | 97 => ⟨S1, .i32⟩
  | 98 => ⟨S_, .i32⟩
  | 99 => ⟨S576x1, .i32⟩
  | 100 => ⟨S576x1, .i1⟩
  | 101 => ⟨S1x1, .i32⟩
  | 102 => ⟨S576x1, .i32⟩
  | 103 => ⟨S576x1, .i1⟩
  | 104 => ⟨S576x1, .i1⟩
  | 105 => ⟨S_, .i1⟩
  | 106 => ⟨S576, .i1⟩
  | 107 => ⟨S32x576x768, .f32⟩
  | 108 => ⟨S32x576x768, .i1⟩
  | 109 => ⟨S_, .f32⟩
  | 110 => ⟨S32x576x768, .f32⟩
  | 111 => ⟨S32x576x768, .f32⟩
  | 112 => ⟨S576, .i32⟩
  | 113 => ⟨S576, .i32⟩
  | 114 => ⟨S576, .i32⟩
  | 115 => ⟨S24x24, .i32⟩
  | 116 => ⟨S24x24, .i32⟩
  | 117 => ⟨S576, .i32⟩
  | 118 => ⟨S_, .i32⟩
  | 119 => ⟨S576, .i32⟩
  | 120 => ⟨S576, .i1⟩
  | 121 => ⟨S_, .i32⟩
  | 122 => ⟨S576, .i32⟩
  | 123 => ⟨S576, .i32⟩
  | 124 => ⟨S576, .i32⟩
  | 125 => ⟨S576x1, .i32⟩
  | 126 => ⟨S1, .i32⟩
  | 127 => ⟨S_, .i32⟩
  | _ => ⟨S32x576x768, .f32⟩

abbrev hbmTy0_1 (i : Nat) : BufTy := match i % 128 with
  | 0 => ⟨S576x1, .i32⟩
  | 1 => ⟨S576x1, .i1⟩
  | 2 => ⟨S1x1, .i32⟩
  | 3 => ⟨S576x1, .i32⟩
  | 4 => ⟨S576x1, .i1⟩
  | 5 => ⟨S576x1, .i1⟩
  | 6 => ⟨S_, .i1⟩
  | 7 => ⟨S576, .i1⟩
  | 8 => ⟨S32x576x768, .f32⟩
  | 9 => ⟨S32x576x768, .i1⟩
  | 10 => ⟨S_, .f32⟩
  | 11 => ⟨S32x576x768, .f32⟩
  | 12 => ⟨S32x576x768, .f32⟩
  | 13 => ⟨S576, .i32⟩
  | 14 => ⟨S576, .i32⟩
  | 15 => ⟨S576, .i32⟩
  | 16 => ⟨S24x24, .i32⟩
  | 17 => ⟨S576, .i32⟩
  | 18 => ⟨S_, .i32⟩
  | 19 => ⟨S576, .i32⟩
  | 20 => ⟨S576, .i1⟩
  | 21 => ⟨S_, .i32⟩
  | 22 => ⟨S576, .i32⟩
  | 23 => ⟨S576, .i32⟩
  | 24 => ⟨S576, .i32⟩
  | 25 => ⟨S576x1, .i32⟩
  | 26 => ⟨S1, .i32⟩
  | 27 => ⟨S_, .i32⟩
  | 28 => ⟨S576x1, .i32⟩
  | 29 => ⟨S576x1, .i1⟩
  | 30 => ⟨S1x1, .i32⟩
  | 31 => ⟨S576x1, .i32⟩
  | 32 => ⟨S576x1, .i1⟩
  | 33 => ⟨S576x1, .i1⟩
  | 34 => ⟨S_, .i1⟩
  | 35 => ⟨S576, .i1⟩
  | 36 => ⟨S32x576x768, .f32⟩
  | 37 => ⟨S32x576x768, .i1⟩
  | 38 => ⟨S_, .f32⟩
  | 39 => ⟨S32x576x768, .f32⟩
  | 40 => ⟨S32x576x768, .f32⟩
  | 41 => ⟨S576, .i32⟩
  | 42 => ⟨S576, .i32⟩
  | 43 => ⟨S576, .i32⟩
  | 44 => ⟨S24x24, .i32⟩
  | 45 => ⟨S24x24, .i32⟩
  | 46 => ⟨S576, .i32⟩
  | 47 => ⟨S_, .i32⟩
  | 48 => ⟨S576, .i32⟩
  | 49 => ⟨S576, .i1⟩
  | 50 => ⟨S_, .i32⟩
  | 51 => ⟨S576, .i32⟩
  | 52 => ⟨S576, .i32⟩
  | 53 => ⟨S576, .i32⟩
  | 54 => ⟨S576x1, .i32⟩
  | 55 => ⟨S1, .i32⟩
  | 56 => ⟨S_, .i32⟩
  | 57 => ⟨S576x1, .i32⟩
  | 58 => ⟨S576x1, .i1⟩
  | 59 => ⟨S1x1, .i32⟩
  | 60 => ⟨S576x1, .i32⟩
  | 61 => ⟨S576x1, .i1⟩
  | 62 => ⟨S576x1, .i1⟩
  | 63 => ⟨S_, .i1⟩
  | 64 => ⟨S576, .i1⟩
  | 65 => ⟨S32x576x768, .f32⟩
  | 66 => ⟨S32x576x768, .i1⟩
  | 67 => ⟨S_, .f32⟩
  | 68 => ⟨S32x576x768, .f32⟩
  | 69 => ⟨S32x576x768, .f32⟩
  | 70 => ⟨S576, .i32⟩
  | 71 => ⟨S576, .i32⟩
  | 72 => ⟨S576, .i32⟩
  | 73 => ⟨S24x24, .i32⟩
  | 74 => ⟨S576, .i32⟩
  | 75 => ⟨S_, .i32⟩
  | 76 => ⟨S576, .i32⟩
  | 77 => ⟨S576, .i1⟩
  | 78 => ⟨S_, .i32⟩
  | 79 => ⟨S576, .i32⟩
  | 80 => ⟨S576, .i32⟩
  | 81 => ⟨S576, .i32⟩
  | 82 => ⟨S576x1, .i32⟩
  | 83 => ⟨S1, .i32⟩
  | 84 => ⟨S_, .i32⟩
  | 85 => ⟨S576x1, .i32⟩
  | 86 => ⟨S576x1, .i1⟩
  | 87 => ⟨S1x1, .i32⟩
  | 88 => ⟨S576x1, .i32⟩
  | 89 => ⟨S576x1, .i1⟩
  | 90 => ⟨S576x1, .i1⟩
  | 91 => ⟨S_, .i1⟩
  | 92 => ⟨S576, .i1⟩
  | 93 => ⟨S32x576x768, .f32⟩
  | 94 => ⟨S32x576x768, .i1⟩
  | 95 => ⟨S_, .f32⟩
  | 96 => ⟨S32x576x768, .f32⟩
  | 97 => ⟨S32x576x768, .f32⟩
  | 98 => ⟨S576, .i32⟩
  | 99 => ⟨S576, .i32⟩
  | 100 => ⟨S576, .i32⟩
  | 101 => ⟨S1x32x576x768, .f32⟩
  | 102 => ⟨S1x32x576x768, .f32⟩
  | 103 => ⟨S1x32x576x768, .f32⟩
  | 104 => ⟨S1x32x576x768, .f32⟩
  | 105 => ⟨S1x32x576x768, .f32⟩
  | 106 => ⟨S1x32x576x768, .f32⟩
  | 107 => ⟨S1x32x576x768, .f32⟩
  | 108 => ⟨S1x32x576x768, .f32⟩
  | 109 => ⟨S8x32x576x768, .f32⟩
  | 110 => ⟨S1x576, .i32⟩
  | 111 => ⟨S1x576, .i32⟩
  | 112 => ⟨S1x576, .i32⟩
  | 113 => ⟨S1x576, .i32⟩
  | 114 => ⟨S1x576, .i32⟩
  | 115 => ⟨S1x576, .i32⟩
  | 116 => ⟨S1x576, .i32⟩
  | 117 => ⟨S1x576, .i32⟩
  | 118 => ⟨S8x576, .i32⟩
  | 119 => ⟨S8, .i32⟩
  | _ => ⟨S32x576x768, .f32⟩

abbrev hbmTy (i : Nat) : BufTy := match i / 128 with
  | 0 => hbmTy0_0 i
  | 1 => hbmTy0_1 i
  | _ => ⟨S32x576x768, .f32⟩

abbrev bufTy : (tb : Table) → Fin (tcTables nBuf tb) → BufTy
  | .hbm, ⟨i, _⟩ => hbmTy i
  | _, _ => ⟨S32x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v3 : Ref sig .tc := ⟨.hbm, 3, rfl⟩
abbrev main_call1_c : Ref sig .tc := ⟨.hbm, 4, rfl⟩
abbrev main_call1_v0 : Ref sig .tc := ⟨.hbm, 5, rfl⟩
abbrev main_call1_v1 : Ref sig .tc := ⟨.hbm, 6, rfl⟩
abbrev main_call1_c_0 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_call1_v5 : Ref sig .tc := ⟨.hbm, 11, rfl⟩
abbrev main_call1_c_1 : Ref sig .tc := ⟨.hbm, 12, rfl⟩
abbrev main_call1_c_2 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_3 : Ref sig .tc := ⟨.hbm, 20, rfl⟩
abbrev main_call1_v12 : Ref sig .tc := ⟨.hbm, 21, rfl⟩
abbrev main_call1_v13 : Ref sig .tc := ⟨.hbm, 22, rfl⟩
abbrev main_call1_v14 : Ref sig .tc := ⟨.hbm, 23, rfl⟩
abbrev main_call1_cst : Ref sig .tc := ⟨.hbm, 24, rfl⟩
abbrev main_call1_v15 : Ref sig .tc := ⟨.hbm, 25, rfl⟩
abbrev main_v4 : Ref sig .tc := ⟨.hbm, 26, rfl⟩
abbrev main_call2_v0 : Ref sig .tc := ⟨.hbm, 27, rfl⟩
abbrev main_call2_v1_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_call4_c : Ref sig .tc := ⟨.hbm, 32, rfl⟩
abbrev main_call4_v0 : Ref sig .tc := ⟨.hbm, 33, rfl⟩
abbrev main_call4_v1 : Ref sig .tc := ⟨.hbm, 34, rfl⟩
abbrev main_call4_c_0 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_call4_c_1 : Ref sig .tc := ⟨.hbm, 40, rfl⟩
abbrev main_call4_c_2 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_v9 : Ref sig .tc := ⟨.hbm, 45, rfl⟩
abbrev main_call4_v10 : Ref sig .tc := ⟨.hbm, 46, rfl⟩
abbrev main_call4_v11 : Ref sig .tc := ⟨.hbm, 47, rfl⟩
abbrev main_call4_c_3 : Ref sig .tc := ⟨.hbm, 48, rfl⟩
abbrev main_call4_v12 : Ref sig .tc := ⟨.hbm, 49, rfl⟩
abbrev main_call4_v13 : Ref sig .tc := ⟨.hbm, 50, rfl⟩
abbrev main_call4_v14 : Ref sig .tc := ⟨.hbm, 51, rfl⟩
abbrev main_call4_cst : Ref sig .tc := ⟨.hbm, 52, rfl⟩
abbrev main_call4_v15 : Ref sig .tc := ⟨.hbm, 53, rfl⟩
abbrev main_v8 : Ref sig .tc := ⟨.hbm, 54, rfl⟩
abbrev main_call5_v0 : Ref sig .tc := ⟨.hbm, 55, rfl⟩
abbrev main_call5_v1_0 : Ref sig .tc := ⟨.hbm, 56, rfl⟩
abbrev main_v9 : Ref sig .tc := ⟨.hbm, 57, rfl⟩
abbrev main_call6_v0 : Ref sig .tc := ⟨.hbm, 58, rfl⟩
abbrev main_v10 : Ref sig .tc := ⟨.hbm, 59, rfl⟩
abbrev main_v11 : Ref sig .tc := ⟨.hbm, 60, rfl⟩
abbrev main_call7_c : Ref sig .tc := ⟨.hbm, 61, rfl⟩
abbrev main_call7_v0 : Ref sig .tc := ⟨.hbm, 62, rfl⟩
abbrev main_call7_v1 : Ref sig .tc := ⟨.hbm, 63, rfl⟩
abbrev main_call7_c_0 : Ref sig .tc := ⟨.hbm, 64, rfl⟩
abbrev main_call7_v2 : Ref sig .tc := ⟨.hbm, 65, rfl⟩
abbrev main_call7_v3 : Ref sig .tc := ⟨.hbm, 66, rfl⟩
abbrev main_call7_v4 : Ref sig .tc := ⟨.hbm, 67, rfl⟩
abbrev main_call7_v5 : Ref sig .tc := ⟨.hbm, 68, rfl⟩
abbrev main_call7_c_1 : Ref sig .tc := ⟨.hbm, 69, rfl⟩
abbrev main_call7_c_2 : Ref sig .tc := ⟨.hbm, 70, rfl⟩
abbrev main_call7_v6 : Ref sig .tc := ⟨.hbm, 71, rfl⟩
abbrev main_call7_v7 : Ref sig .tc := ⟨.hbm, 72, rfl⟩
abbrev main_call7_v8 : Ref sig .tc := ⟨.hbm, 73, rfl⟩
abbrev main_call7_v9 : Ref sig .tc := ⟨.hbm, 74, rfl⟩
abbrev main_call7_v10 : Ref sig .tc := ⟨.hbm, 75, rfl⟩
abbrev main_call7_v11 : Ref sig .tc := ⟨.hbm, 76, rfl⟩
abbrev main_call7_c_3 : Ref sig .tc := ⟨.hbm, 77, rfl⟩
abbrev main_call7_v12 : Ref sig .tc := ⟨.hbm, 78, rfl⟩
abbrev main_call7_v13 : Ref sig .tc := ⟨.hbm, 79, rfl⟩
abbrev main_call7_v14 : Ref sig .tc := ⟨.hbm, 80, rfl⟩
abbrev main_call7_cst : Ref sig .tc := ⟨.hbm, 81, rfl⟩
abbrev main_call7_v15 : Ref sig .tc := ⟨.hbm, 82, rfl⟩
abbrev main_v12 : Ref sig .tc := ⟨.hbm, 83, rfl⟩
abbrev main_call8_v0 : Ref sig .tc := ⟨.hbm, 84, rfl⟩
abbrev main_call8_v1_0 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_call10_c : Ref sig .tc := ⟨.hbm, 89, rfl⟩
abbrev main_call10_v0 : Ref sig .tc := ⟨.hbm, 90, rfl⟩
abbrev main_call10_v1 : Ref sig .tc := ⟨.hbm, 91, rfl⟩
abbrev main_call10_c_0 : Ref sig .tc := ⟨.hbm, 92, rfl⟩
abbrev main_call10_v2 : Ref sig .tc := ⟨.hbm, 93, rfl⟩
abbrev main_call10_v3 : Ref sig .tc := ⟨.hbm, 94, rfl⟩
abbrev main_call10_v4 : Ref sig .tc := ⟨.hbm, 95, rfl⟩
abbrev main_call10_v5 : Ref sig .tc := ⟨.hbm, 96, rfl⟩
abbrev main_call10_c_1 : Ref sig .tc := ⟨.hbm, 97, rfl⟩
abbrev main_call10_c_2 : Ref sig .tc := ⟨.hbm, 98, rfl⟩
abbrev main_call10_v6 : Ref sig .tc := ⟨.hbm, 99, rfl⟩
abbrev main_call10_v7 : Ref sig .tc := ⟨.hbm, 100, rfl⟩
abbrev main_call10_v8 : Ref sig .tc := ⟨.hbm, 101, rfl⟩
abbrev main_call10_v9 : Ref sig .tc := ⟨.hbm, 102, rfl⟩
abbrev main_call10_v10 : Ref sig .tc := ⟨.hbm, 103, rfl⟩
abbrev main_call10_v11 : Ref sig .tc := ⟨.hbm, 104, rfl⟩
abbrev main_call10_c_3 : Ref sig .tc := ⟨.hbm, 105, rfl⟩
abbrev main_call10_v12 : Ref sig .tc := ⟨.hbm, 106, rfl⟩
abbrev main_call10_v13 : Ref sig .tc := ⟨.hbm, 107, rfl⟩
abbrev main_call10_v14 : Ref sig .tc := ⟨.hbm, 108, rfl⟩
abbrev main_call10_cst : Ref sig .tc := ⟨.hbm, 109, rfl⟩
abbrev main_call10_v15 : Ref sig .tc := ⟨.hbm, 110, rfl⟩
abbrev main_v16 : Ref sig .tc := ⟨.hbm, 111, rfl⟩
abbrev main_call11_v0 : Ref sig .tc := ⟨.hbm, 112, rfl⟩
abbrev main_call11_v1_0 : Ref sig .tc := ⟨.hbm, 113, rfl⟩
abbrev main_v17 : Ref sig .tc := ⟨.hbm, 114, rfl⟩
abbrev main_call12_v0 : Ref sig .tc := ⟨.hbm, 115, rfl⟩
abbrev main_v18 : Ref sig .tc := ⟨.hbm, 116, rfl⟩
abbrev main_v19 : Ref sig .tc := ⟨.hbm, 117, rfl⟩
abbrev main_call13_c : Ref sig .tc := ⟨.hbm, 118, rfl⟩
abbrev main_call13_v0 : Ref sig .tc := ⟨.hbm, 119, rfl⟩
abbrev main_call13_v1 : Ref sig .tc := ⟨.hbm, 120, rfl⟩
abbrev main_call13_c_0 : Ref sig .tc := ⟨.hbm, 121, rfl⟩
abbrev main_call13_v2 : Ref sig .tc := ⟨.hbm, 122, rfl⟩
abbrev main_call13_v3 : Ref sig .tc := ⟨.hbm, 123, rfl⟩
abbrev main_call13_v4 : Ref sig .tc := ⟨.hbm, 124, rfl⟩
abbrev main_call13_v5 : Ref sig .tc := ⟨.hbm, 125, rfl⟩
abbrev main_call13_c_1 : Ref sig .tc := ⟨.hbm, 126, rfl⟩
abbrev main_call13_c_2 : Ref sig .tc := ⟨.hbm, 127, rfl⟩
abbrev main_call13_v6 : Ref sig .tc := ⟨.hbm, 128, rfl⟩
abbrev main_call13_v7 : Ref sig .tc := ⟨.hbm, 129, rfl⟩
abbrev main_call13_v8 : Ref sig .tc := ⟨.hbm, 130, rfl⟩
abbrev main_call13_v9 : Ref sig .tc := ⟨.hbm, 131, rfl⟩
abbrev main_call13_v10 : Ref sig .tc := ⟨.hbm, 132, rfl⟩
abbrev main_call13_v11 : Ref sig .tc := ⟨.hbm, 133, rfl⟩
abbrev main_call13_c_3 : Ref sig .tc := ⟨.hbm, 134, rfl⟩
abbrev main_call13_v12 : Ref sig .tc := ⟨.hbm, 135, rfl⟩
abbrev main_call13_v13 : Ref sig .tc := ⟨.hbm, 136, rfl⟩
abbrev main_call13_v14 : Ref sig .tc := ⟨.hbm, 137, rfl⟩
abbrev main_call13_cst : Ref sig .tc := ⟨.hbm, 138, rfl⟩
abbrev main_call13_v15 : Ref sig .tc := ⟨.hbm, 139, rfl⟩
abbrev main_v20 : Ref sig .tc := ⟨.hbm, 140, rfl⟩
abbrev main_call14_v0 : Ref sig .tc := ⟨.hbm, 141, rfl⟩
abbrev main_call14_v1_0 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_call16_c : Ref sig .tc := ⟨.hbm, 146, rfl⟩
abbrev main_call16_v0 : Ref sig .tc := ⟨.hbm, 147, rfl⟩
abbrev main_call16_v1 : Ref sig .tc := ⟨.hbm, 148, rfl⟩
abbrev main_call16_c_0 : Ref sig .tc := ⟨.hbm, 149, rfl⟩
abbrev main_call16_v2 : Ref sig .tc := ⟨.hbm, 150, rfl⟩
abbrev main_call16_v3 : Ref sig .tc := ⟨.hbm, 151, rfl⟩
abbrev main_call16_v4 : Ref sig .tc := ⟨.hbm, 152, rfl⟩
abbrev main_call16_v5 : Ref sig .tc := ⟨.hbm, 153, rfl⟩
abbrev main_call16_c_1 : Ref sig .tc := ⟨.hbm, 154, rfl⟩
abbrev main_call16_c_2 : Ref sig .tc := ⟨.hbm, 155, rfl⟩
abbrev main_call16_v6 : Ref sig .tc := ⟨.hbm, 156, rfl⟩
abbrev main_call16_v7 : Ref sig .tc := ⟨.hbm, 157, rfl⟩
abbrev main_call16_v8 : Ref sig .tc := ⟨.hbm, 158, rfl⟩
abbrev main_call16_v9 : Ref sig .tc := ⟨.hbm, 159, rfl⟩
abbrev main_call16_v10 : Ref sig .tc := ⟨.hbm, 160, rfl⟩
abbrev main_call16_v11 : Ref sig .tc := ⟨.hbm, 161, rfl⟩
abbrev main_call16_c_3 : Ref sig .tc := ⟨.hbm, 162, rfl⟩
abbrev main_call16_v12 : Ref sig .tc := ⟨.hbm, 163, rfl⟩
abbrev main_call16_v13 : Ref sig .tc := ⟨.hbm, 164, rfl⟩
abbrev main_call16_v14 : Ref sig .tc := ⟨.hbm, 165, rfl⟩
abbrev main_call16_cst : Ref sig .tc := ⟨.hbm, 166, rfl⟩
abbrev main_call16_v15 : Ref sig .tc := ⟨.hbm, 167, rfl⟩
abbrev main_v24 : Ref sig .tc := ⟨.hbm, 168, rfl⟩
abbrev main_call17_v0 : Ref sig .tc := ⟨.hbm, 169, rfl⟩
abbrev main_call17_v1_0 : Ref sig .tc := ⟨.hbm, 170, rfl⟩
abbrev main_v25 : Ref sig .tc := ⟨.hbm, 171, rfl⟩
abbrev main_call18_v0 : Ref sig .tc := ⟨.hbm, 172, rfl⟩
abbrev main_v26 : Ref sig .tc := ⟨.hbm, 173, rfl⟩
abbrev main_v27 : Ref sig .tc := ⟨.hbm, 174, rfl⟩
abbrev main_call19_c : Ref sig .tc := ⟨.hbm, 175, rfl⟩
abbrev main_call19_v0 : Ref sig .tc := ⟨.hbm, 176, rfl⟩
abbrev main_call19_v1 : Ref sig .tc := ⟨.hbm, 177, rfl⟩
abbrev main_call19_c_0 : Ref sig .tc := ⟨.hbm, 178, rfl⟩
abbrev main_call19_v2 : Ref sig .tc := ⟨.hbm, 179, rfl⟩
abbrev main_call19_v3 : Ref sig .tc := ⟨.hbm, 180, rfl⟩
abbrev main_call19_v4 : Ref sig .tc := ⟨.hbm, 181, rfl⟩
abbrev main_call19_v5 : Ref sig .tc := ⟨.hbm, 182, rfl⟩
abbrev main_call19_c_1 : Ref sig .tc := ⟨.hbm, 183, rfl⟩
abbrev main_call19_c_2 : Ref sig .tc := ⟨.hbm, 184, rfl⟩
abbrev main_call19_v6 : Ref sig .tc := ⟨.hbm, 185, rfl⟩
abbrev main_call19_v7 : Ref sig .tc := ⟨.hbm, 186, rfl⟩
abbrev main_call19_v8 : Ref sig .tc := ⟨.hbm, 187, rfl⟩
abbrev main_call19_v9 : Ref sig .tc := ⟨.hbm, 188, rfl⟩
abbrev main_call19_v10 : Ref sig .tc := ⟨.hbm, 189, rfl⟩
abbrev main_call19_v11 : Ref sig .tc := ⟨.hbm, 190, rfl⟩
abbrev main_call19_c_3 : Ref sig .tc := ⟨.hbm, 191, rfl⟩
abbrev main_call19_v12 : Ref sig .tc := ⟨.hbm, 192, rfl⟩
abbrev main_call19_v13 : Ref sig .tc := ⟨.hbm, 193, rfl⟩
abbrev main_call19_v14 : Ref sig .tc := ⟨.hbm, 194, rfl⟩
abbrev main_call19_cst : Ref sig .tc := ⟨.hbm, 195, rfl⟩
abbrev main_call19_v15 : Ref sig .tc := ⟨.hbm, 196, rfl⟩
abbrev main_v28 : Ref sig .tc := ⟨.hbm, 197, rfl⟩
abbrev main_call20_v0 : Ref sig .tc := ⟨.hbm, 198, rfl⟩
abbrev main_call20_v1_0 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_call22_c : Ref sig .tc := ⟨.hbm, 203, rfl⟩
abbrev main_call22_v0 : Ref sig .tc := ⟨.hbm, 204, rfl⟩
abbrev main_call22_v1 : Ref sig .tc := ⟨.hbm, 205, rfl⟩
abbrev main_call22_c_0 : Ref sig .tc := ⟨.hbm, 206, rfl⟩
abbrev main_call22_v2 : Ref sig .tc := ⟨.hbm, 207, rfl⟩
abbrev main_call22_v3 : Ref sig .tc := ⟨.hbm, 208, rfl⟩
abbrev main_call22_v4 : Ref sig .tc := ⟨.hbm, 209, rfl⟩
abbrev main_call22_v5 : Ref sig .tc := ⟨.hbm, 210, rfl⟩
abbrev main_call22_c_1 : Ref sig .tc := ⟨.hbm, 211, rfl⟩
abbrev main_call22_c_2 : Ref sig .tc := ⟨.hbm, 212, rfl⟩
abbrev main_call22_v6 : Ref sig .tc := ⟨.hbm, 213, rfl⟩
abbrev main_call22_v7 : Ref sig .tc := ⟨.hbm, 214, rfl⟩
abbrev main_call22_v8 : Ref sig .tc := ⟨.hbm, 215, rfl⟩
abbrev main_call22_v9 : Ref sig .tc := ⟨.hbm, 216, rfl⟩
abbrev main_call22_v10 : Ref sig .tc := ⟨.hbm, 217, rfl⟩
abbrev main_call22_v11 : Ref sig .tc := ⟨.hbm, 218, rfl⟩
abbrev main_call22_c_3 : Ref sig .tc := ⟨.hbm, 219, rfl⟩
abbrev main_call22_v12 : Ref sig .tc := ⟨.hbm, 220, rfl⟩
abbrev main_call22_v13 : Ref sig .tc := ⟨.hbm, 221, rfl⟩
abbrev main_call22_v14 : Ref sig .tc := ⟨.hbm, 222, rfl⟩
abbrev main_call22_cst : Ref sig .tc := ⟨.hbm, 223, rfl⟩
abbrev main_call22_v15 : Ref sig .tc := ⟨.hbm, 224, rfl⟩
abbrev main_v32 : Ref sig .tc := ⟨.hbm, 225, rfl⟩
abbrev main_call23_v0 : Ref sig .tc := ⟨.hbm, 226, rfl⟩
abbrev main_call23_v1_0 : Ref sig .tc := ⟨.hbm, 227, rfl⟩
abbrev main_v33 : Ref sig .tc := ⟨.hbm, 228, rfl⟩
abbrev main_v34 : Ref sig .tc := ⟨.hbm, 229, rfl⟩
abbrev main_v35 : Ref sig .tc := ⟨.hbm, 230, rfl⟩
abbrev main_v36 : Ref sig .tc := ⟨.hbm, 231, rfl⟩
abbrev main_v37 : Ref sig .tc := ⟨.hbm, 232, rfl⟩
abbrev main_v38 : Ref sig .tc := ⟨.hbm, 233, rfl⟩
abbrev main_v39 : Ref sig .tc := ⟨.hbm, 234, rfl⟩
abbrev main_v40 : Ref sig .tc := ⟨.hbm, 235, rfl⟩
abbrev main_v41 : Ref sig .tc := ⟨.hbm, 236, rfl⟩
abbrev main_v42 : Ref sig .tc := ⟨.hbm, 237, rfl⟩
abbrev main_v43 : Ref sig .tc := ⟨.hbm, 238, rfl⟩
abbrev main_v44 : Ref sig .tc := ⟨.hbm, 239, rfl⟩
abbrev main_v45 : Ref sig .tc := ⟨.hbm, 240, rfl⟩
abbrev main_v46 : Ref sig .tc := ⟨.hbm, 241, rfl⟩
abbrev main_v47 : Ref sig .tc := ⟨.hbm, 242, rfl⟩
abbrev main_v48 : Ref sig .tc := ⟨.hbm, 243, rfl⟩
abbrev main_v49 : Ref sig .tc := ⟨.hbm, 244, rfl⟩
abbrev main_v50 : Ref sig .tc := ⟨.hbm, 245, rfl⟩
abbrev main_v51 : Ref sig .tc := ⟨.hbm, 246, rfl⟩
abbrev main_v52 : Ref sig .tc := ⟨.hbm, 247, rfl⟩

abbrev nD : Nat := 1
abbrev τ : Topo := Topo.v7x

variable {F : FTy → Type} [FloatOps F]
-- ==== Proof.Tile.lean ====
/- The vector subcores' body, written as the loops it was unrolled from. -/
module

public import proofs.«01_k».proof.KernelIdeal.P02

@[expose] public section

noncomputable section

namespace Cert.Proof.Tile

open Cert.KernelIdeal
open Idealize.ShloMosaic Idealize.SL.Sem

variable {F : FTy → Type} [FloatOps F] [Facts] {α β : Type}
open Facts₀ Facts

/-- The rows of the input, as the subcores see them. -/
abbrev tblV : Memref sig .scVector .hbm S18432x3x2x128 .f32 := Memref.whole main_v0_scv
/-- The index table. -/
abbrev dstV : Memref sig .scVector .hbm S32x72x64 .i32 := Memref.whole main_c_scv
/-- The result that holds the views' rows. -/
abbrev augV : Memref sig .scVector .hbm S147456x3x2x128 .f32 := Memref.whole main_v1_0_scv
/-- The result that holds the inverses. -/
abbrev invV : Memref sig .scVector .hbm S8x576 .i32 := Memref.whole main_v1_1_scv
/-- A subcore's own scratch for its page of the index table. -/
abbrev idxV : Memref sig .scVector .vmem S72x64 .i32 := Memref.whole cc0_scratch0
/-- A subcore's own scratch for one row of the inverses. -/
abbrev rowV : Memref sig .scVector .vmem S576 .i32 := Memref.whole cc0_scratch1

/-- The programs of the vector subcore at grid point `i`. -/
abbrev PT (F : FTy → Type) [FloatOps F] (i : grid0.Coords) (α : Type) : Type 1 := Prog (TpuEff nD τ sig (Elt F) Λ₀ (.scVector ((i 0).castLE hcore0) ((i 1).castLE hsub0))) α

/-- `n` steps in turn, each ahead of the rest. -/
def each {i : grid0.Coords} {α : Type} : (n : ℕ) → (Fin n → PT F i α → PT F i α) → PT F i α → PT F i α
  | 0, _, k => k
  | n + 1, f, k => f 0 (each n (fun t => f t.succ) k)

/-- The two row buffers and their semaphores, by a chunk's parity. -/
def bufV (j : ℕ) : Memref sig .scVector .vmem S64x3x2x128 .f32 := match j % 2 with
  | 0 => Memref.whole cc0_scratch2
  | _ => Memref.whole cc0_scratch3
/-- A row buffer is taken whole. -/
theorem bufV_whole (j : ℕ) : (bufV j).IsWhole := by
  unfold bufV; split <;> exact Memref.isWhole_whole _
/-- The semaphore chunk `j`'s arrival is counted on. -/
def gsem (j : ℕ) : DmaSem sig := match j % 2 with
  | 0 => cc0_scratch4.sem
  | _ => cc0_scratch5.sem
/-- The semaphore chunk `j`'s copies to the result are counted on. -/
def ssem (j : ℕ) : DmaSem sig := match j % 2 with
  | 0 => cc0_scratch6.sem
  | _ => cc0_scratch7.sem

/-- Each chunk lies within the table. -/
theorem chunk_inb (i : grid0.Coords) : ∀ j : Fin 9, ∀ a, (match j with | 0 => k0_off2 i | ⟨n + 1, _⟩ => k0_off3 i (BitVec.ofNat 32 (64 + 64 * n))) a + S64x3x2x128.size a ≤ S18432x3x2x128.size a
  | 0 => k0_off2_inb i
  | ⟨n + 1, h⟩ => k0_off3_inb i ⟨n, by omega⟩

/-- Chunk `j` of the rows of the table this subcore moves. -/
def chunkV (i : grid0.Coords) (j : Fin 9) : Memref sig .scVector .hbm S64x3x2x128 .f32 :=
  tblV.slice (Rect.unit (s := S18432x3x2x128) (match j with | 0 => k0_off2 i | ⟨n + 1, _⟩ => k0_off3 i (BitVec.ofNat 32 (64 + 64 * n))) S64x3x2x128.size (chunk_inb i j)) (fun _ => rfl)

/-- A chunk holds whole words. -/
theorem chunkV_exact (i : grid0.Coords) (j : Fin 9) : (chunkV i j).view.WordExact := View.wordExact_bits rfl

/-- Chunk `j`'s copy into its row buffer, and the wait for it. -/
def fetch {i : grid0.Coords} (j : Fin 9) (k : PT F i α) : PT F i α :=
  .op (.enqueueDma (chunkV i j) (.here (bufV j)) (.dma (gsem j)) (chunkV_exact i j) (bufV_whole j).wordExact ⟨Or.inl rfl, trivial⟩) fun _ => k
/-- The wait for chunk `j`'s copy into its row buffer. -/
def fetched {i : grid0.Coords} (j : Fin 9) (k : PT F i α) : PT F i α :=
  .op (.waitDma2 (gsem j) (chunkV i j) (bufV j) (chunkV_exact i j) (bufV_whole j).wordExact) fun _ => k

/-- Each panel lies within a row buffer. -/
theorem panel_inb (p : Fin 3) : ∀ a, (![0, p.val, 0, 0] : Fin 4 → Nat) a + S64x1x2x128.size a ≤ S64x3x2x128.size a := by
  revert p; decide
/-- Each panel lies within the result. -/
theorem augPanel_inb (p : Fin 3) : ∀ a, (![0, p.val, 0, 0] : Fin 4 → Nat) a + S147456x1x2x128.size a ≤ S147456x3x2x128.size a := by
  revert p; decide
/-- Each list lies within the index scratch. -/
theorem list_inb (r : Fin 72) : ∀ a, (![r.val, 0] : Fin 2 → Nat) a + S1x64.size a ≤ S72x64.size a := by
  revert r; decide

/-- Panel `p` of a row buffer, panel `p` of the result, and list `r` of the index scratch. -/
def panelV (j : ℕ) (p : Fin 3) : Memref sig .scVector .vmem S64x2x128 .f32 :=
  ((bufV j).slice (Rect.unit (s := S64x3x2x128) ![0, p.val, 0, 0] S64x1x2x128.size (panel_inb p)) (fun _ => rfl)).squeeze S64x2x128 squeezes_S64x1x2x128_S64x2x128
/-- Panel `p` of the result. -/
def augPanelV (p : Fin 3) : Memref sig .scVector .hbm S147456x2x128 .f32 :=
  ((augV.slice (Rect.unit (s := S147456x3x2x128) ![0, p.val, 0, 0] S147456x1x2x128.size (augPanel_inb p)) (fun _ => rfl)).squeeze S147456x2x128 squeezes_S147456x1x2x128_S147456x2x128).slice
    (Rect.unit (s := S147456x2x128) ![0, 0, 0] S147456x2x128.size inb_S147456x2x128_S147456x2x128_0_0_0) (fun _ => rfl)
/-- List `r` of the index scratch. -/
def listV (r : Fin 72) : Memref sig .scVector .vmem S64 .i32 :=
  (idxV.slice (Rect.unit (s := S72x64) ![r.val, 0] S1x64.size (list_inb r)) (fun _ => rfl)).squeeze S64 squeezes_S1x64_S64

/-- Copy `t` of chunk `j` is of augmentation `t / 3` and panel `t % 3`. -/
def augOf (t : Fin 24) : Fin 8 := ⟨t.val / 3, by omega⟩
/-- The panel of copy `t`. -/
def panelOf (t : Fin 24) : Fin 3 := ⟨t.val % 3, by omega⟩
/-- The list that names copy `t`'s targets in chunk `j`. -/
def listOf (j : Fin 9) (t : Fin 24) : Fin 72 := ⟨8 * j.val + t.val / 3, by omega⟩

/-- The copies of chunk `j` to the result, all on one semaphore, and the waits for them. -/
def scatter {i : grid0.Coords} (j : Fin 9) (t : Fin 24) (k : PT F i α) : PT F i α :=
  SparseCore.enqueueIndirectScatter rfl (panelV j (panelOf t)) (augPanelV (panelOf t)) gathers_S147456x2x128_S64x2x128 (listV (listOf j t)) rfl (ssem j) rfl (Or.inl rfl) >>= fun _ => k
/-- A row buffer's panel holds whole words. -/
theorem panelV_exact (j : ℕ) (p : Fin 3) : (panelV j p).view.WordExact := View.wordExact_bits rfl
/-- The result's panel holds whole words. -/
theorem augPanelV_exact (p : Fin 3) : (augPanelV p).view.WordExact := View.wordExact_bits rfl
/-- The wait for copy `t` of chunk `j`. -/
def scattered {i : grid0.Coords} (j : Fin 9) (t : Fin 24) (k : PT F i α) : PT F i α :=
  SparseCore.waitIndirectScatter (ssem j) (panelV j (panelOf t)) (augPanelV (panelOf t)) (panelV_exact _ _) (augPanelV_exact _) >>= fun _ => k

/-- All twenty-four copies of chunk `j`. -/
def scatters {i : grid0.Coords} (j : Fin 9) : PT F i α → PT F i α := each 24 (scatter j)
/-- The waits for all twenty-four. -/
def scattereds {i : grid0.Coords} (j : Fin 9) : PT F i α → PT F i α := each 24 (scattered j)

/-- Round `t`: chunk `t + 1` arrives and is copied out; chunk `t`'s copies land; chunk `t + 2` is sent for. -/
def round {i : grid0.Coords} (t : Fin 7) (k : PT F i α) : PT F i α :=
  fetched ⟨t.val + 1, by omega⟩ (scatters ⟨t.val + 1, by omega⟩ (scattereds ⟨t.val, by omega⟩ (fetch ⟨t.val + 2, by omega⟩ k)))

/-- The nine chunks. -/
def chunks {i : grid0.Coords} (k : PT F i α) : PT F i α :=
  fetch 0 (fetched 0 (scatters 0 (fetch 1 (each 7 round (fetched 8 (scatters 8 (scattereds 7 (scattereds 8 k))))))))

/-- The subcore's number as it computes it. -/
def wid (i : grid0.Coords) : BitVec 32 :=
  Scalar.addi (Scalar.muli (BitVec.ofNat 32 (i 1).val) 2#32) (BitVec.ofNat 32 (i 0).val)

/-- The three numbers of augmentation `a`'s inverse. -/
def coefE : Fin 8 → BitVec 32
  | 0 => 0#32 | 1 => 23#32 | 2 => 552#32 | 3 => 575#32 | 4 => 575#32 | 5 => 552#32 | 6 => 23#32 | 7 => 0#32
/-- What one row further down adds. -/
def coefF : Fin 8 → BitVec 32
  | 0 => 24#32 | 1 => 24#32 | 2 => 1#32 | 3 => -1#32 | 4 => -24#32 | 5 => -24#32 | 6 => -1#32 | 7 => 1#32
/-- What one column further on adds. -/
def coefG : Fin 8 → BitVec 32
  | 0 => 1#32 | 1 => -1#32 | 2 => -24#32 | 3 => -24#32 | 4 => -1#32 | 5 => 1#32 | 6 => 24#32 | 7 => 24#32

/-- The sixteen entries from `16 t` on of row `a`. -/
def sixteen (a : Fin 8) (t : Fin 36) : IVec S16 32 :=
  let n := addi (iota .scVector S16 32 [0] iota_S16_d0_w32_scVector) (broadcast S16 (BitVec.ofNat 32 (16 * t.val)))
  let r := divsi n (broadcast S16 24#32)
  let c := subi n (muli r (broadcast S16 24#32))
  shapeCast S16 (addi (addi (broadcast S16 (coefE a)) (muli (broadcast S16 (coefF a)) r)) (muli (broadcast S16 (coefG a)) c)) shapeCasts_S16_S16

/-- Each group of sixteen lies within a row. -/
theorem sixteen_inb (t : Fin 36) : ∀ a, (![16 * t.val] : Fin 1 → Nat) a + S16.size a ≤ S576.size a := by
  revert t; decide
/-- Where the group lies. -/
def sixteenR (t : Fin 36) : Rect S576 := Rect.unit (s := S576) ![16 * t.val] S16.size (sixteen_inb t)

/-- Sixteen entries stored (what stood there is read first, and not used). -/
def put {i : grid0.Coords} (a : Fin 8) (t : Fin 36) (k : PT F i α) : PT F i α :=
  .op (.load rowV (sixteenR t).toLoadRect (View.loadsAt_vmem h_S16)) fun _ =>
    .op (.store rowV (sixteenR t) (sixteen a t) Finset.univ (View.stores_vmem_bits_univ h_S16 rfl) (.inl rfl)) fun _ => k

/-- Each row lies within the inverses. -/
theorem invRow_inb (a : Fin 8) : ∀ x, (![a.val, 0] : Fin 2 → Nat) x + S1x576.size x ≤ S8x576.size x := by
  revert a; decide
/-- Row `a` of the inverses. -/
def invRowV (a : Fin 8) : Memref sig .scVector .hbm S576 .i32 :=
  (invV.slice (Rect.unit (s := S8x576) ![a.val, 0] S1x576.size (invRow_inb a)) (fun _ => rfl)).squeeze S576 squeezes_S1x576_S576
/-- A row of the inverses holds whole words. -/
theorem invRowV_exact (a : Fin 8) : (invRowV a).view.WordExact := View.wordExact_bits rfl
/-- The semaphore row `a`'s copy is counted on. -/
def isem : Fin 8 → DmaSem sig
  | 0 => cc0_scoped1.sem | 1 => cc0_scoped2.sem | 2 => cc0_scoped3.sem | 3 => cc0_scoped4.sem
  | 4 => cc0_scoped5.sem | 5 => cc0_scoped6.sem | 6 => cc0_scoped7.sem | 7 => cc0_scoped8.sem

/-- Row `a` of the inverses, computed and copied out. -/
def invRow {i : grid0.Coords} (a : Fin 8) (k : PT F i α) : PT F i α :=
  each 36 (put a) (.op (.enqueueDma rowV (.here (invRowV a)) (.dma (isem a)) (Memref.isWhole_whole _).wordExact (invRowV_exact a) ⟨Or.inl rfl, trivial⟩) fun _ =>
    .op (.waitDma2 (isem a) rowV (invRowV a) (Memref.isWhole_whole _).wordExact (invRowV_exact a)) fun _ => k)

/-- Subcore `a` makes row `a`. -/
def invRowIf {i : grid0.Coords} (a : Fin 8) (k : PT F i α) : PT F i α :=
  if h : Scalar.cmpi .ne (Scalar.extui (Scalar.cmpi .eq (wid i) (BitVec.ofNat 32 a.val))) 0#32 = 1#1 then invRow a k else k

/-- This subcore's page of the index table. -/
def pageV (i : grid0.Coords) : Memref sig .scVector .hbm S72x64 .i32 :=
  (dstV.slice (Rect.unit (s := S32x72x64) (k0_off1 i) S1x72x64.size (k0_off1_inb i)) (fun _ => rfl)).squeeze S72x64 squeezes_S1x72x64_S72x64
/-- A page holds whole words. -/
theorem pageV_exact (i : grid0.Coords) : (pageV i).view.WordExact := View.wordExact_bits rfl

/-- The body. -/
def body (i : grid0.Coords) : PT F i PUnit :=
  .op (.enqueueDma (pageV i) (.here idxV) (.dma cc0_scoped0.sem) (pageV_exact i) (Memref.isWhole_whole _).wordExact ⟨Or.inl rfl, trivial⟩) fun _ =>
    .op (.waitDma2 cc0_scoped0.sem (pageV i) idxV (pageV_exact i) (Memref.isWhole_whole _).wordExact) fun _ =>
      each 8 invRowIf (chunks (.ret ⟨⟩))

end Cert.Proof.Tile

end
-- ==== Proof.Perm.lean ====
/- The eight rearrangements of a 24 × 24 grid, as formulas on positions. -/
module

public import Idealize.ShloMosaic.PureOps

@[expose] public section

namespace Cert.Proof.Perm

/-- Where augmentation `a` puts the patch at position `n` of the grid (row `n / 24`, column `n % 24`). -/
def inv (a n : ℕ) : ℕ := match a with
  | 0 => 24 * (n / 24) + n % 24
  | 1 => 23 + 24 * (n / 24) - n % 24
  | 2 => 552 + n / 24 - 24 * (n % 24)
  | 3 => 575 - n / 24 - 24 * (n % 24)
  | 4 => 575 - 24 * (n / 24) - n % 24
  | 5 => 552 + n % 24 - 24 * (n / 24)
  | 6 => 23 + 24 * (n % 24) - n / 24
  | _ => n / 24 + 24 * (n % 24)

/-- Which patch augmentation `a` shows at position `m`: the rearrangement's inverse, itself one of the eight. -/
def fwd (a m : ℕ) : ℕ := match a with
  | 2 => inv 6 m
  | 6 => inv 2 m
  | a => inv a m

/-- The inverse permutation keeps to the 576 rows. -/
theorem inv_lt : ∀ (a : Fin 8) (n : Fin 576), inv a.val n.val < 576 := by decide +kernel
/-- The permutation keeps to the 576 rows. -/
theorem fwd_lt : ∀ (a : Fin 8) (n : Fin 576), fwd a.val n.val < 576 := by decide +kernel
/-- The permutation undoes its inverse. -/
theorem fwd_inv : ∀ (a : Fin 8) (n : Fin 576), fwd a.val (inv a.val n.val) = n.val := by decide +kernel
/-- The inverse undoes the permutation. -/
theorem inv_fwd : ∀ (a : Fin 8) (n : Fin 576), inv a.val (fwd a.val n.val) = n.val := by decide +kernel

/-- The row of the result that row `n` of worker `w`'s patches goes to in augmentation `a`. -/
def target (w a n : ℕ) : ℕ := a * 18432 + w * 576 + inv a n

end Cert.Proof.Perm

end
-- ==== Proof.Geometry.lean ====
/- Where the body's slices lie in their buffers. -/
module

public import proofs.«01_k».proof.Proof.Tile
public import proofs.«01_k».proof.Proof.Perm
public import proofs.«01_k».proof.Proof.Gen.KernelIdeal
public import Idealize.ShloMosaic.Lib.ValueIdxCore
public import Idealize.ShloMosaic.Lib.SparseCore.Scatter

@[expose] public section

noncomputable section

namespace Cert.Proof.Tile

open Cert.KernelIdeal
open Idealize.ShloMosaic Idealize.SL.Sem Idealize.ShloMosaic.ValueIdx
open Facts₀ Facts

/-- The subcore's number. -/
def wnum (i : grid0.Coords) : ℕ := 2 * (i 1).val + (i 0).val
/-- There are thirty-two subcores. -/
theorem wnum_lt (i : grid0.Coords) : wnum i < 32 := by
  have h0 : (i 0).val < 2 := (i 0).isLt
  have h1 : (i 1).val < 16 := (i 1).isLt
  unfold wnum; omega

/-- Dropping the axis of length one from a row buffer's panel keeps the other coordinates. -/
theorem squeeze_row (y : S64x2x128.Idx) :
    Shape.reshapeEquiv (s := S64x1x2x128) (s' := S64x2x128) squeezes_S64x1x2x128_S64x2x128.numel_eq y = (ix4 (n0 := 64) (n1 := 1) (n2 := 2) (n3 := 128) (y 0) 0 (y 1) (y 2) : S64x1x2x128.Idx) := by
  refine Shape.reshapeEquiv_eq_of_rowMajor _ ?_
  refine (Shape.rowMajor_val_four (d := ![64, 1, 2, 128]) _).trans (Eq.trans ?_ (Shape.rowMajor_val_three (d := ![64, 2, 128]) _).symm)
  show (((y 0).val * 1 + 0) * 2 + (y 1).val) * 128 + (y 2).val = ((y 0).val * 2 + (y 1).val) * 128 + (y 2).val
  omega

/-- Where an element of a row buffer's panel lies in the buffer. -/
theorem panelV_emb (j : ℕ) (p : Fin 3) (y : S64x2x128.Idx) :
    (panelV j p).view.emb y = (bufV j).view.emb (ix4 (n0 := 64) (n1 := 3) (n2 := 2) (n3 := 128) (y 0) p (y 1) (y 2)) := by
  show (bufV j).view.emb ((Rect.unit (s := S64x3x2x128) ![0, p.val, 0, 0] S64x1x2x128.size (panel_inb p)).emb (Shape.reshapeEquiv (s := S64x1x2x128) (s' := S64x2x128) squeezes_S64x1x2x128_S64x2x128.numel_eq y)) = _
  rw [squeeze_row]
  refine congrArg _ (funext fun a => Fin.ext ?_)
  match a with
  | ⟨0, _⟩ => show 0 + 1 * (y 0).val = (y 0).val; omega
  | ⟨1, _⟩ => show p.val + 1 * 0 = p.val; omega
  | ⟨2, _⟩ => show 0 + 1 * (y 1).val = (y 1).val; omega
  | ⟨3, _⟩ => show 0 + 1 * (y 2).val = (y 2).val; omega

/-- Dropping the axis of length one from the result's panel keeps the other coordinates. -/
theorem squeeze_aug (y : S147456x2x128.Idx) :
    Shape.reshapeEquiv (s := S147456x1x2x128) (s' := S147456x2x128) squeezes_S147456x1x2x128_S147456x2x128.numel_eq y = (ix4 (n0 := 147456) (n1 := 1) (n2 := 2) (n3 := 128) (y 0) 0 (y 1) (y 2) : S147456x1x2x128.Idx) := by
  refine Shape.reshapeEquiv_eq_of_rowMajor _ ?_
  refine (Shape.rowMajor_val_four (d := ![147456, 1, 2, 128]) _).trans (Eq.trans ?_ (Shape.rowMajor_val_three (d := ![147456, 2, 128]) _).symm)
  show (((y 0).val * 1 + 0) * 2 + (y 1).val) * 128 + (y 2).val = ((y 0).val * 2 + (y 1).val) * 128 + (y 2).val
  omega

/-- Where an element of the result's panel lies in the result. -/
theorem augPanelV_emb (p : Fin 3) (y : S147456x2x128.Idx) :
    (augPanelV p).view.emb y = ix4 (n0 := 147456) (n1 := 3) (n2 := 2) (n3 := 128) (y 0) p (y 1) (y 2) := by
  have h0 : (Rect.unit (s := S147456x2x128) ![0, 0, 0] S147456x2x128.size inb_S147456x2x128_S147456x2x128_0_0_0).emb y = y :=
    funext fun a => Fin.ext (by
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega)
  show (Rect.unit (s := S147456x3x2x128) ![0, p.val, 0, 0] S147456x1x2x128.size (augPanel_inb p)).emb (Shape.reshapeEquiv (s := S147456x1x2x128) (s' := S147456x2x128) squeezes_S147456x1x2x128_S147456x2x128.numel_eq _) = _
  rw [h0, squeeze_aug]
  refine funext fun a => Fin.ext ?_
  match a with
  | ⟨0, _⟩ => show 0 + 1 * (y 0).val = (y 0).val; omega
  | ⟨1, _⟩ => show p.val + 1 * 0 = p.val; omega
  | ⟨2, _⟩ => show 0 + 1 * (y 1).val = (y 1).val; omega
  | ⟨3, _⟩ => show 0 + 1 * (y 2).val = (y 2).val; omega

/-- Where an entry of a list lies in the index scratch. -/
theorem listV_emb (r : Fin 72) (y : S64.Idx) : (listV r).view.emb y = ix2 (n0 := 72) (n1 := 64) r (y 0) := by
  have h : Shape.reshapeEquiv (s := S1x64) (s' := S64) squeezes_S1x64_S64.numel_eq y = (ix2 (n0 := 1) (n1 := 64) 0 (y 0) : S1x64.Idx) := by
    refine Shape.reshapeEquiv_eq_of_rowMajor _ ?_
    refine (Shape.rowMajor_val_two (d := ![1, 64]) _).trans (Eq.trans ?_ (Shape.rowMajor_val_one (d := ![64]) _).symm)
    show 0 * 64 + (y 0).val = (y 0).val
    omega
  show (Rect.unit (s := S72x64) ![r.val, 0] S1x64.size (list_inb r)).emb (Shape.reshapeEquiv (s := S1x64) (s' := S64) squeezes_S1x64_S64.numel_eq y) = _
  rw [h]
  refine funext fun a => Fin.ext ?_
  match a with
  | ⟨0, _⟩ => show r.val + 1 * 0 = r.val; omega
  | ⟨1, _⟩ => show 0 + 1 * (y 0).val = (y 0).val; omega

/-- Each row of each chunk is a row of the table. -/
theorem chunk_lt (i : grid0.Coords) (j : Fin 9) (x : Fin 64) : wnum i * 576 + 64 * j.val + x.val < 18432 := by
  have := wnum_lt i; omega

/-- Where an element of a chunk lies in the table: the subcore's 576 rows, 64 to a chunk. -/
theorem chunkV_emb (i : grid0.Coords) (j : Fin 9) (y : S64x3x2x128.Idx) :
    (chunkV i j).view.emb y = ix4 (n0 := 18432) (n1 := 3) (n2 := 2) (n3 := 128) ⟨wnum i * 576 + 64 * j.val + (y 0).val, chunk_lt i j (y 0)⟩ (y 1) (y 2) (y 3) := by
  have hoff : (match j with | 0 => k0_off2 i | ⟨n + 1, _⟩ => k0_off3 i (BitVec.ofNat 32 (64 + 64 * n))) = ![wnum i * 576 + 64 * j.val, 0, 0, 0] := by
    unfold wnum
    match j with
    | 0 => exact (Gen.k0_off2_eq i).trans (by congr 1; simp; omega)
    | ⟨n + 1, h⟩ => exact (Gen.k0_off3_eq i ⟨n, by omega⟩).trans (by congr 1; simp; omega)
  unfold chunkV
  refine funext fun a => Fin.ext ?_
  show (match j with | 0 => k0_off2 i | ⟨n + 1, _⟩ => k0_off3 i (BitVec.ofNat 32 (64 + 64 * n))) a + 1 * (y a).val = _
  rw [hoff]
  match a with
  | ⟨0, _⟩ => show _ + 1 * (y 0).val = wnum i * 576 + 64 * j.val + (y 0).val; simp
  | ⟨1, _⟩ => show 0 + 1 * (y 1).val = (y 1).val; omega
  | ⟨2, _⟩ => show 0 + 1 * (y 2).val = (y 2).val; omega
  | ⟨3, _⟩ => show 0 + 1 * (y 3).val = (y 3).val; omega

/-- A subcore's page is the one with its number. -/
theorem pageV_emb (i : grid0.Coords) (y : S72x64.Idx) : (pageV i).view.emb y = ix3 (n0 := 32) (n1 := 72) (n2 := 64) ⟨wnum i, wnum_lt i⟩ (y 0) (y 1) := by
  have h : Shape.reshapeEquiv (s := S1x72x64) (s' := S72x64) squeezes_S1x72x64_S72x64.numel_eq y = (ix3 (n0 := 1) (n1 := 72) (n2 := 64) 0 (y 0) (y 1) : S1x72x64.Idx) := by
    refine Shape.reshapeEquiv_eq_of_rowMajor _ ?_
    refine (Shape.rowMajor_val_three (d := ![1, 72, 64]) _).trans (Eq.trans ?_ (Shape.rowMajor_val_two (d := ![72, 64]) _).symm)
    show (0 * 72 + (y 0).val) * 64 + (y 1).val = (y 0).val * 64 + (y 1).val
    omega
  show (Rect.unit (s := S32x72x64) (k0_off1 i) S1x72x64.size (Gen.k0_off1_inb i)).emb (Shape.reshapeEquiv (s := S1x72x64) (s' := S72x64) squeezes_S1x72x64_S72x64.numel_eq y) = _
  rw [h]
  refine funext fun a => Fin.ext ?_
  refine (congrArg (fun o : Fin 3 → ℕ => o a + 1 * ((ix3 (n0 := 1) (n1 := 72) (n2 := 64) 0 (y 0) (y 1) : S1x72x64.Idx) a).val) (Gen.k0_off1_eq i)).trans ?_
  match a with
  | ⟨0, _⟩ => show 2 * (i 1).val + (i 0).val + 1 * 0 = wnum i; unfold wnum; omega
  | ⟨1, _⟩ => show 0 + 1 * (y 0).val = (y 0).val; omega
  | ⟨2, _⟩ => show 0 + 1 * (y 1).val = (y 1).val; omega

/-- Where an entry of row `a` lies in the inverses. -/
theorem invRowV_emb (a : Fin 8) (y : S576.Idx) : (invRowV a).view.emb y = ix2 (n0 := 8) (n1 := 576) a (y 0) := by
  have h : Shape.reshapeEquiv (s := S1x576) (s' := S576) squeezes_S1x576_S576.numel_eq y = (ix2 (n0 := 1) (n1 := 576) 0 (y 0) : S1x576.Idx) := by
    refine Shape.reshapeEquiv_eq_of_rowMajor _ ?_
    refine (Shape.rowMajor_val_two (d := ![1, 576]) _).trans (Eq.trans ?_ (Shape.rowMajor_val_one (d := ![576]) _).symm)
    show 0 * 576 + (y 0).val = (y 0).val
    omega
  show (Rect.unit (s := S8x576) ![a.val, 0] S1x576.size (invRow_inb a)).emb (Shape.reshapeEquiv (s := S1x576) (s' := S576) squeezes_S1x576_S576.numel_eq y) = _
  rw [h]
  refine funext fun d => Fin.ext ?_
  match d with
  | ⟨0, _⟩ => show a.val + 1 * 0 = a.val; omega
  | ⟨1, _⟩ => show 0 + 1 * (y 0).val = (y 0).val; omega

/-- Where an entry of the group of sixteen lies in its row. -/
theorem sixteenR_emb (t : Fin 36) (y : S16.Idx) :
    (sixteenR t).emb y = ix1 (n := 576) ⟨16 * t.val + (y 0).val, by have h : (y 0).val < 16 := (y 0).isLt; omega⟩ := by
  refine funext fun d => Fin.ext ?_
  match d with
  | ⟨0, _⟩ => show 16 * t.val + 1 * (y 0).val = 16 * t.val + (y 0).val; omega

/-- A row of one of the result's panels, as its elements. -/
theorem mem_augRow (p : Fin 3) (r : Fin 147456) (x : S147456x3x2x128.Idx) :
    x ∈ ((augPanelV p).view.slice (S147456x2x128.rowRect gathers_S147456x2x128_S64x2x128.axis r)).set ↔ (x 0) = r ∧ (x 1) = p := by
  constructor
  · intro h
    obtain ⟨y, -, rfl⟩ := Finset.mem_map.mp h
    refine ⟨?_, ?_⟩
    · refine (congrFun (augPanelV_emb p ((S147456x2x128.rowRect gathers_S147456x2x128_S64x2x128.axis r).emb y)) (0 : Fin 4)).trans ?_
      exact Shape.rowRect_emb_axis (s := S147456x2x128) 0 r y
    · exact congrFun (augPanelV_emb p ((S147456x2x128.rowRect gathers_S147456x2x128_S64x2x128.axis r).emb y)) (1 : Fin 4)
  · rintro ⟨rfl, rfl⟩
    have hz := Shape.rowRect_emb_rowProj (s := S147456x2x128) 0 (ix3 (n0 := 147456) (n1 := 2) (n2 := 128) (x 0) (x 2) (x 3))
    refine Finset.mem_map.mpr ⟨Shape.rowProj (s := S147456x2x128) 0 (ix3 (n0 := 147456) (n1 := 2) (n2 := 128) (x 0) (x 2) (x 3)), Finset.mem_univ _, ?_⟩
    refine (congrArg (augPanelV (x 1)).view.emb hz).trans ((augPanelV_emb _ _).trans ?_)
    exact (eq_ix4 (n0 := 147456) (n1 := 3) (n2 := 2) (n3 := 128) x).symm

end Cert.Proof.Tile

end
-- ==== Proof.RowBatch.lean ====
/- One indirect scatter as the next transfers of a batch.

   A batch (`Transfers.Batch`) counts equal transfers on one semaphore. An indirect scatter is as many transfers as
   its list has entries, each of one row, and all rows of one target have one size: so a scatter advances a batch
   whose unit is one row's credit by the length of its list, and several scatters may be outstanding on the batch's
   semaphore. -/
module

public import Idealize.ShloMosaic.Lib.Batch
public import Idealize.ShloMosaic.Lib.SparseCore.Scatter

@[expose] public section

noncomputable section

namespace Cert.Proof.RowBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The `o` numbers from `j` on, as numbers below `n`. -/
def taken {n : ℕ} (j o : ℕ) (h : j + o ≤ n) : Fin o ↪ Fin n where
  toFun k := ⟨j + k.val, by omega⟩
  inj' k k' hk := by
    have := congrArg Fin.val hk
    exact Fin.ext (by simpa using this)

/-- The `o` transfers from the `j`-th on, among those still pending. -/
theorem pending_take {n : ℕ} (Φ : Fin n → sProp 𝕄) (j o : ℕ) (h : j + o ≤ n) :
    (bigSep (Transfers.pending j) Φ : sProp 𝕄)
      = iprop(bigSep Finset.univ (fun k : Fin o => Φ ⟨j + k.val, by omega⟩) ∗ bigSep (Transfers.pending (j + o)) Φ) := by
  classical
  have hmem : ∀ t : Fin n, t ∈ Finset.univ.map (taken j o h) ↔ j ≤ t.val ∧ t.val < j + o := fun t => by
    rw [Finset.mem_map]
    constructor
    · rintro ⟨k, -, rfl⟩
      have := k.isLt
      exact ⟨by show j ≤ j + k.val; omega, by show j + k.val < j + o; omega⟩
    · rintro ⟨h1, h2⟩
      exact ⟨⟨t.val - j, by omega⟩, Finset.mem_univ _, Fin.ext (by show j + (t.val - j) = t.val; omega)⟩
  have hpend : ∀ (i : ℕ) (t : Fin n), t ∈ Transfers.pending (n := n) i ↔ i ≤ t.val := fun i t => by simp [Transfers.pending]
  have hset : Transfers.pending (n := n) j = Finset.univ.map (taken j o h) ∪ Transfers.pending (j + o) := by
    ext t
    rw [Finset.mem_union, hmem, hpend, hpend]
    omega
  have hdis : Disjoint (Finset.univ.map (taken j o h)) (Transfers.pending (n := n) (j + o)) :=
    Finset.disjoint_left.mpr fun t ht ht' => by
      rw [hmem] at ht
      rw [hpend] at ht'
      omega
  rw [hset, BI.bigSep_union hdis, bigSep_map]
  rfl

/-- A scatter issued as the transfers `j`, `j + 1`, … of a batch: each entry takes the target's row it names, its own
    word of the list and its row of the source, and delivers the row written, the word and the source's row. -/
theorem wp_scatter [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    {fd : Fin (s.size hg.axis') → Buf (Elt F) (dst.view.loc c)}
    {n : ℕ} {D : Fin n → sProp 𝕄} {j u : ℕ}
    (ι : Ix) (N : ℕ) (hin : ∀ x, (offs.view.read (Elt F) fo x).toNat < s₀.size hg.axis)
    (r : Fin (s.size hg.axis') → Fin (s₀.size hg.axis)) (hrr : ∀ i, r i = rows (offs.view.read (Elt F) fo) hn hin i)
    (hN : ∀ i, (dst.slice (s₀.rowRect hg.axis (r i)) (s₀.stride_rowRect hg.axis _)).view.dmaCredit = N)
    (hj : j + s.size hg.axis' ≤ n) (hu : u ≤ j * N)
    (hD : ∀ i : Fin (s.size hg.axis'),
      iprop(((dst.view.loc c ↦[(dst.view.slice (s₀.rowRect hg.axis (r i))).set]{fullShare}
              ((dst.view.slice (s₀.rowRect hg.axis (r i))).write (Elt F) (fd i) (scatterRowPayload c src hg fs i) Finset.univ))
          ∗ (offs.view.loc c ↦[{offs.view.emb (si.rowMajor.symm (i.cast hn.symm))}]{qo} fo))
          ∗ (src.view.loc c ↦[(src.view.slice (s.rowRect hg.axis' i)).set]{q} fs)) ⊢ D ⟨j + i.val, by omega⟩) :
    iprop((src.view.loc c ↦[src.view.set]{q} fs)
        ∗ (bigSep Finset.univ fun i => dst.view.loc c ↦[(dst.view.slice (s₀.rowRect hg.axis (r i))).set]{fullShare} (fd i))
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  classical
  obtain rfl : r = rows (offs.view.read (Elt F) fo) hn hin := funext hrr
  rw [enqueueIndirectScatter_bind]
  set r := rows (offs.view.read (Elt F) fo) hn hin with hrdef
  let S : Stream nD τ sig (Elt F) :=
    Stream.issued c offs.view hn sem (fun i w => (rowOf (s₀.size hg.axis) w).map (scatterRow c src dst hg sem he hsp hr i)) 0
  let rd : Fin (s.size hg.axis') → RowDma τ sig (Elt F) c.2 sem := fun i => scatterRow c src dst hg sem he hsp hr i (r i)
  have hA : S.RowsAgree := by
    intro i x x' ρ ρ' h h'
    obtain ⟨y, -, rfl⟩ := Option.map_eq_some_iff.mp h
    obtain ⟨y', -, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hset : ∀ i, (src.view.slice (s.rowRect hg.axis' i)).set = (rd i).src.view.set := fun i =>
    (View.set_cast (v := src.view.slice (s.rowRect hg.axis' i)) _ _).symm
  have hsum : ∑ i, (rd i).dst.view.dmaCredit = s.size hg.axis' * N := by
    rw [Finset.sum_congr rfl fun i _ => hN i, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_take (fun t => count EC (γ t) 0) j (s.size hg.axis') hj)) $$ HI
  icases HI' with ⟨Hγ, HI⟩
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Hd Ho' Hs' Hγ]
  · have hrow : ∀ i : Fin (s.size hg.axis'), iprop(inv κ (Transfers.batchBody EC (c, SemLoc.dma sem) N D γ γ₀)
          ∗ ((((dst.view.loc c ↦[(dst.view.slice (s₀.rowRect hg.axis (r i))).set]{fullShare} (fd i)) ∗ S.heldEntry qo fo i)
          ∗ (src.view.loc c ↦[(src.view.slice (s.rowRect hg.axis' i)).set]{q} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists q, fs, iprop((dst.view.loc c ↦[(dst.view.slice (s₀.rowRect hg.axis (r i))).set]{fullShare}
              ((dst.view.slice (s₀.rowRect hg.axis (r i))).write (Elt F) (fd i) (scatterRowPayload c src hg fs i) Finset.univ)) ∗ S.heldEntry qo fo i)
      isplitl [Hsq]
      · iapply (Entails.of_eq (congrArg (fun I => (src.view.loc c ↦[I]{q} fs : sProp 𝕄)) (hset i))) $$ Hsq
      isplitl [Hr He]
      · iapply writeUpdate_frame
        isplitl [Hr]
        · iapply (pointsTo_writeUpdate c (v := dst.view.slice (s₀.rowRect hg.axis (r i))) subset_rfl) $$ Hr
        · iexact He
      · have hcr := Transfers.batch_creditUpdate EC (g := (c, SemLoc.dma sem)) (N := N) (γ := γ) (γ₀ := γ₀) (ι := κ) ⟨j + i.val, by omega⟩ (hD i)
        rw [hset i, ← hN i] at hcr
        iapply hcr
        isplitr
        · rw [hN i]; iexact Hinv
        · iexact Hγi
    unfold Stream.res
    ihave H1 := Transfers.bigSep_sep_in _ _ _ $$ [Hd Ho']; · isplitl [Hd] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.RowBatch

end
-- ==== Proof.Stages.lean ====
/- A vector subcore's program in stages: what each takes and what it leaves. -/
module

public import proofs.«01_k».proof.Defs
public import proofs.«01_k».proof.Proof.Geometry
public import proofs.«01_k».proof.Proof.RowBatch
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- No loop needs a measure. -/
abbrev 𝒱₀ : Variants := Variants.none
/-- The handshakes' rounds, and the transfers' counters. -/
abbrev UH : Type := URounds (GSem nD τ sig) ℕ
/-- The ghost state: the launch's hand-shakes and the counters of the batches. -/
abbrev UU : Type := UH × Counters

local notation "𝕄" => MT nD τ sig (HIx 1) (Elt F) ℕ UU ℕ

/-- The vector subcore at grid point `i` of device `d`. -/
abbrev thr (d : Dev nD) (i : grid0.Coords) : Thread nD τ := V d ((i 0).castLE hcore0) ((i 1).castLE hsub0)

variable (d : Dev nD) (i : grid0.Coords)

/-- The subcore may run `k` and ends with `Q`. -/
abbrev WP (k : PT F i PUnit) (Q : PUnit → sProp 𝕄) : sProp 𝕄 := wp frame (wpE (defs₀ (F := F)) 𝒱₀ (thr d i) none) Set.univ k Q

/-- The stage `f` takes `X` and leaves `Y` to the rest. -/
def Stage (X Y : sProp 𝕄) (f : PT F i PUnit → PT F i PUnit) : Prop :=
  ∀ (k : PT F i PUnit) (Q : PUnit → sProp 𝕄), X ⊢ iprop((Y -∗ WP d i k Q) -∗ WP d i (f k) Q)

variable {d i}

/-- Two stages, one after the other. -/
theorem Stage.comp {X Y Z : sProp 𝕄} {f g : PT F i PUnit → PT F i PUnit} (hf : Stage d i X Y f) (hg : Stage d i Y Z g) :
    Stage d i X Z (fun k => f (g k)) := fun k Q => by
  iintro HX Hk
  iapply (hf (g k) Q) $$ HX
  iintro HY
  iapply (hg k Q) $$ HY
  iexact Hk

/-- A stage from more, or to less. -/
theorem Stage.conseq {X X' Y Y' : sProp 𝕄} {f : PT F i PUnit → PT F i PUnit} (hf : Stage d i X Y f) (hX : X' ⊢ X) (hY : Y ⊢ Y') :
    Stage d i X' Y' f := fun k Q => by
  iintro HX Hk
  iapply (hf k Q) $$ [HX]
  · iapply hX; iexact HX
  iintro HY
  iapply Hk
  iapply hY; iexact HY

/-- A stage leaves alone what it does not use. -/
theorem Stage.frame {X Y : sProp 𝕄} {f : PT F i PUnit → PT F i PUnit} (R : sProp 𝕄) (hf : Stage d i X Y f) :
    Stage d i iprop(X ∗ R) iprop(Y ∗ R) f := fun k Q => by
  iintro ⟨HX, HR⟩ Hk
  iapply (hf k Q) $$ HX
  iintro HY
  iapply Hk
  isplitl [HY]; · iexact HY
  iexact HR

/-- What is updated ahead of a stage may go into it. -/
theorem Stage.update {X X' Y : sProp 𝕄} {f : PT F i PUnit → PT F i PUnit} (hX : X' ⊢ |={Set.univ}=> X) (hf : Stage d i X Y f) :
    Stage d i X' Y f := fun k Q => by
  iintro HX Hk
  imod hX $$ HX with HX
  iapply (hf k Q) $$ HX
  iexact Hk

/-- … and what it leaves may be updated. -/
theorem Stage.updated {X Y Y' : sProp 𝕄} {f : PT F i PUnit → PT F i PUnit} (hf : Stage d i X Y f) (hY : Y ⊢ |={Set.univ}=> Y') :
    Stage d i X Y' f := fun k Q => by
  iintro HX Hk
  iapply (hf k Q) $$ HX
  iintro HY
  imod hY $$ HY with HY
  iapply Hk; iexact HY

/-- Steps that each carry an invariant on by one carry it on by their number. -/
theorem Stage.each (I : ℕ → sProp 𝕄) {n : ℕ} {f : Fin n → PT F i PUnit → PT F i PUnit} (m : ℕ)
    (hf : ∀ t : Fin n, Stage d i (I (m + t.val)) (I (m + t.val + 1)) (f t)) : Stage d i (I m) (I (m + n)) (Tile.each n f) := by
  induction n generalizing m with
  | zero =>
    intro k Q
    iintro HX Hk
    iapply Hk; iexact HX
  | succ n ih =>
    have h := (hf 0).comp (ih (f := fun t => f t.succ) (m + 1) fun t => by
      have := hf t.succ
      rwa [show m + t.succ.val = m + 1 + t.val by rw [Fin.val_succ]; omega] at this)
    rwa [show m + 1 + n = m + (n + 1) by omega] at h

/-- Stages over a list of steps, each with its own part of two families and the step before it's rest. -/
theorem Stage.each_fam {n : ℕ} (R : ℕ → sProp 𝕄) (A B : Fin n → sProp 𝕄) {f : Fin n → PT F i PUnit → PT F i PUnit} (m : ℕ)
    (hf : ∀ t : Fin n, Stage d i iprop(A t ∗ R (m + t.val)) iprop(B t ∗ R (m + t.val + 1)) (f t)) :
    Stage d i iprop(bigSep Finset.univ A ∗ R m) iprop(bigSep Finset.univ B ∗ R (m + n)) (Tile.each n f) := by
  induction n generalizing m with
  | zero =>
    intro k Q
    iintro ⟨HX, HR⟩ Hk
    iapply Hk
    isplitl [HX]
    · iapply (Entails.of_eq (show (bigSep Finset.univ A : sProp 𝕄) = bigSep Finset.univ B by rw [Finset.univ_eq_empty, bigSep_empty, bigSep_empty])) $$ HX
    · iexact HR
  | succ n ih =>
    have h0 := hf 0
    rw [show m + (0 : Fin (n + 1)).val = m from rfl] at h0
    have h1 := h0.frame (bigSep Finset.univ fun t : Fin n => A t.succ)
    have h2 := (ih (fun t => A t.succ) (fun t => B t.succ) (f := fun t => f t.succ) (m + 1) fun t => by
      have := hf t.succ
      rwa [show m + t.succ.val = m + 1 + t.val by rw [Fin.val_succ]; omega] at this).frame (B 0)
    rw [show m + 1 + n = m + (n + 1) by omega] at h2
    have hm : iprop((B 0 ∗ R (m + 1)) ∗ bigSep Finset.univ fun t : Fin n => A t.succ) ⊢ iprop((bigSep Finset.univ (fun t : Fin n => A t.succ) ∗ R (m + 1)) ∗ B 0) := by
      iintro ⟨⟨H1, H2⟩, H3⟩
      isplitl [H2 H3]
      · isplitl [H3]; · iexact H3
        iexact H2
      · iexact H1
    refine ((h1.conseq (Entails.refl _) hm).comp h2).conseq ?_ ?_
    · rw [Idealize.ShloMosaic.bigSep_univ_succ]
      iintro ⟨⟨H1, H2⟩, H3⟩
      isplitl [H1 H3]
      · isplitl [H1]; · iexact H1
        iexact H3
      · iexact H2
    · rw [Idealize.ShloMosaic.bigSep_univ_succ]
      iintro ⟨⟨H1, H2⟩, H3⟩
      isplitl [H1 H3]
      · isplitl [H3]; · iexact H3
        iexact H1
      · iexact H2

/-- A stage from something, whatever it is. -/
theorem Stage.exists {T : Type} {X : T → sProp 𝕄} {Y : sProp 𝕄} {f : PT F i PUnit → PT F i PUnit} (hf : ∀ x, Stage d i (X x) Y f) :
    Stage d i iprop(∃ x, X x) Y f := fun k Q => by
  iintro ⟨%x, HX⟩ Hk
  iapply (hf x k Q) $$ HX
  iexact Hk

/-- A stage that may use a fact held at its start. -/
theorem Stage.pure {φ : Prop} {X Y : sProp 𝕄} {f : PT F i PUnit → PT F i PUnit} (hf : φ → Stage d i X Y f) :
    Stage d i iprop(⌜φ⌝ ∗ X) Y f := fun k Q => by
  iintro ⟨%h, HX⟩ Hk
  iapply (hf h k Q) $$ HX
  iexact Hk

/-! ## What a subcore owes -/

section Owes

variable (d i) (O : CellTallies nD τ sig (HIx 1)) (W : Waits sig (HIx 1))

/-- The subcore may wait, and has waited beyond `W` for nothing but its own transfers. -/
def Ow : sProp 𝕄 := iprop(Transfers.MayWaits (thr d i) (default : HIx 1) O
  ∗ ∃ W', ⌜∀ p ∈ W', p ∈ W ∨ p.2 = none⌝ ∗ owes (thr d i) O W')

end Owes

variable {O : CellTallies nD τ sig (HIx 1)} {W : Waits sig (HIx 1)}

/-- A transfer of the subcore's own, lent its source at some share. -/
theorem copy_stage {s : Shape} {e : EltTy} {sp sp' : Space} (src : Memref sig .scVector sp s e) (dst : Memref sig .scVector sp' s e) (sem : DmaSem sig)
    (hsrc : src.view.WordExact) (hdst : dst.view.WordExact) (hty : DmaTarget.Typed (nD := nD) (τ := τ) (p := (thr d i).2) sp (.dma sem) (.here dst)) (h0 : 0 < s.numel)
    (q : PosShare TreeShare) (fs : Buf (Elt F) (src.view.loc (thr d i))) (fd : Buf (Elt F) (dst.view.loc (thr d i))) :
    Stage d i iprop((src.view.loc (thr d i) ↦[src.view.set]{q} fs) ∗ (dst.view.loc (thr d i) ↦[dst.view.set]{fullShare} fd) ∗ semVal ((thr d i), .dma sem) 0)
      (Transfers.Flight countersEmb (thr d i) (.dma sem) (default : HIx 1) dst.view.dmaCredit
        iprop((dst.view.loc (thr d i) ↦[dst.view.set]{fullShare} (dst.view.write (Elt F) fd (src.view.read (Elt F) fs) Finset.univ)) ∗ (src.view.loc (thr d i) ↦[src.view.set]{q} fs)))
      (fun k => .op (.enqueueDma src (.here dst) (.dma sem) hsrc hdst hty) fun _ => k) := fun k Q => by
  iintro H Hk
  iapply (Transfers.wp_dmaLocal countersEmb 𝒱₀ (thr d i) none (via := .same) (default : HIx 1) dst.view.dmaCredit (View.amount_dma _ _) (View.dmaCredit_pos _ h0) subset_rfl) $$ H
  iexact Hk

set_option maxHeartbeats 1000000 in
/-- The wait for it. -/
theorem copied_stage {s s' : Shape} {e e' : EltTy} {sp sp' : Space} (src : Memref sig .scVector sp s' e') (dst : Memref sig .scVector sp' s e) (sem : DmaSem sig)
    (hsrc : src.view.WordExact) (hdst : dst.view.WordExact) (D : sProp 𝕄) :
    Stage d i iprop(Transfers.Flight countersEmb (thr d i) (.dma sem) (default : HIx 1) dst.view.dmaCredit D ∗ Ow d i O W)
      iprop((D ∗ semVal ((thr d i), .dma sem) 0) ∗ Ow d i O W)
      (fun k => .op (.waitDma2 sem src dst hsrc hdst) fun _ => k) := fun k Q => by
  unfold Ow
  iintro ⟨Hf, #Hmw, %W', %hW, HO⟩ Hk
  iapply (Transfers.wp_waitLocalO countersEmb 𝒱₀ (thr d i) none (default : HIx 1) (rfl : dst.view.dmaCredit = _)) $$ [Hf HO]
  · isplitl [Hf]; · iexact Hf
    isplitl [HO]; · iexact HO
    iapply (Transfers.MayWaits.elim (SemLoc.dma sem)) $$ Hmw
  iintro ⟨HD, Hs, HO⟩
  iapply Hk
  isplitl [HD Hs]
  · isplitl [HD] <;> iassumption
  isplitr; · iexact Hmw
  iexists _
  isplitr
  swap; · iexact HO
  ipureintro
  intro p hp
  rcases Finset.mem_insert.mp hp with hp | hp
  · exact .inr (hp ▸ rfl)
  · exact hW p hp

/-! ## A chunk's fetch -/

section Fetch

variable (d i)

/-- Chunk `j` of the table: its rows from `64 j` on of the subcore's 576. -/
def chunk (ft : Buf (Elt F) (tblV.view.loc (thr d i))) (j : Fin 9) : S64x3x2x128.Idx → Elt F .f32 := fun x =>
  ft (ix4 (n0 := 18432) (n1 := 3) (n2 := 2) (n3 := 128) ⟨wnum i * 576 + 64 * j.val + (x 0).val, chunk_lt i j (x 0)⟩ (x 1) (x 2) (x 3))

/-- A share of the table. -/
abbrev Tbl (q : PosShare TreeShare) (ft : Buf (Elt F) (tblV.view.loc (thr d i))) : sProp 𝕄 := tblV.view.loc (thr d i) ↦{q} ft

/-- Nothing is counted on chunk `j`'s arrival semaphore. -/
abbrev Gsem0 (j : ℕ) : sProp 𝕄 := semVal ((thr d i), .dma (gsem j)) 0
/-- Nothing is counted on the semaphore of chunk `j`'s copies. -/
abbrev Ssem0 (j : ℕ) : sProp 𝕄 := semVal ((thr d i), .dma (ssem j)) 0
/-- Chunk `j`'s row buffer and what it holds. -/
abbrev BufPts (j : ℕ) (f : Buf (Elt F) ((bufV j).view.loc (thr d i))) : sProp 𝕄 :=
  (bufV j).view.loc (thr d i) ↦[(bufV j).view.set]{fullShare} f

/-- Chunk `j`'s buffer and semaphores at rest. -/
def Idle (j : ℕ) : sProp 𝕄 := iprop((∃ f, BufPts d i j f) ∗ Gsem0 (F := F) d i j ∗ Ssem0 (F := F) d i j)
/-- Chunk `j` under way to its buffer. -/
def Fetching (q : PosShare TreeShare) (ft : Buf (Elt F) (tblV.view.loc (thr d i))) (j : Fin 9) : sProp 𝕄 :=
  iprop(Transfers.Flight countersEmb (thr d i) (.dma (gsem j)) (default : HIx 1) (bufV j).view.dmaCredit
      iprop(Tbl d i q ft ∗ ∃ f, ⌜(bufV j).view.read (Elt F) f = chunk d i ft j⌝ ∗ BufPts d i j f) ∗ Ssem0 (F := F) d i j)
/-- Chunk `j` in its buffer. -/
def Full (ft : Buf (Elt F) (tblV.view.loc (thr d i))) (j : Fin 9) : sProp 𝕄 :=
  iprop((∃ f, ⌜(bufV j).view.read (Elt F) f = chunk d i ft j⌝ ∗ BufPts d i j f) ∗ Gsem0 (F := F) d i j ∗ Ssem0 (F := F) d i j)

variable {d i}

/-- What is read through a chunk's window is that chunk's rows. -/
theorem read_chunk (ft : Buf (Elt F) (tblV.view.loc (thr d i))) (j : Fin 9) : (chunkV i j).view.read (Elt F) ft = chunk d i ft j := by
  funext x
  exact congrArg ft (chunkV_emb i j x)

/-- Sending for chunk `j` into its idle row buffer. -/
theorem fetch_stage (q : PosShare TreeShare) (ft : Buf (Elt F) (tblV.view.loc (thr d i))) (j : Fin 9) :
    Stage d i iprop(Idle (F := F) d i j ∗ Tbl d i q ft) (Fetching d i q ft j) (fetch j) := fun k Q => by
  unfold Idle Fetching
  iintro ⟨⟨⟨%f, Hb⟩, Hg, Hs⟩, Ht⟩ Hk
  ihave Ht' := (pointsTo_split_subset (q := q) (f := ft) (S := Finset.univ) (Finset.subset_univ (chunkV i j).view.set)).1 $$ Ht
  icases Ht' with ⟨Hc, Hr⟩
  iapply (copy_stage (F := F) (d := d) (i := i) (chunkV i j) (bufV j) (gsem j) (chunkV_exact i j) (bufV_whole j).wordExact ⟨Or.inl rfl, trivial⟩ (by decide) q ft f k Q) $$ [Hc Hb Hg]
  · isplitl [Hc]; · iexact Hc
    isplitl [Hb] <;> iassumption
  iintro Hf
  iapply Hk
  isplitl [Hf Hr]
  · ihave Hf' := (Transfers.Flight_frame countersEmb (thr d i)) $$ [Hr Hf]
    · isplitl [Hr]; · iexact Hr
      iexact Hf
    iapply (Transfers.Flight_mono countersEmb (thr d i) (D := iprop((tblV.view.loc (thr d i) ↦[Finset.univ \ (chunkV i j).view.set]{q} ft)
      ∗ BufPts d i j ((bufV j).view.write (Elt F) f ((chunkV i j).view.read (Elt F) ft) Finset.univ) ∗ ((chunkV i j).view.loc (thr d i) ↦[(chunkV i j).view.set]{q} ft))) ?_) $$ Hf'
    iintro ⟨H1, H2, H3⟩
    isplitl [H1 H3]
    · iapply (pointsTo_split_subset (q := q) (f := ft) (S := Finset.univ) (Finset.subset_univ (chunkV i j).view.set)).2
      isplitl [H3]; · iexact H3
      iexact H1
    · iexists _
      isplitr
      swap; · iexact H2
      ipureintro
      rw [View.read_write_univ, read_chunk]
  · iexact Hs

/-- When chunk `j` has arrived its row buffer holds it, and the share of the table is back. -/
theorem fetched_stage (q : PosShare TreeShare) (ft : Buf (Elt F) (tblV.view.loc (thr d i))) (j : Fin 9) :
    Stage d i iprop(Fetching d i q ft j ∗ Ow d i O W) iprop((Full d i ft j ∗ Tbl d i q ft) ∗ Ow d i O W) (fetched j) := by
  refine ((copied_stage (F := F) (d := d) (i := i) (O := O) (W := W) (chunkV i j) (bufV j) (gsem j) (chunkV_exact i j) (bufV_whole j).wordExact
    iprop(Tbl d i q ft ∗ ∃ f, ⌜(bufV j).view.read (Elt F) f = chunk d i ft j⌝ ∗ BufPts d i j f)).frame (Ssem0 (F := F) d i j)).conseq ?_ ?_
  · unfold Fetching
    iintro ⟨⟨H1, H2⟩, H3⟩
    isplitl [H1 H3]
    · isplitl [H1] <;> iassumption
    · iexact H2
  · unfold Full
    iintro ⟨⟨⟨⟨Ht, Hb⟩, Hg⟩, HO⟩, Hs⟩
    isplitl [Ht Hb Hg Hs]
    · isplitl [Hb Hg Hs]
      · isplitl [Hb]; · iexact Hb
        isplitl [Hg] <;> iassumption
      · iexact Ht
    · iexact HO

end Fetch

end Cert.Proof.Tile

end
-- ==== Proof.Scatters.lean ====
/- One chunk's copies to the result: 24 indirect scatters outstanding at once on one semaphore, and their waits. -/
module

public import proofs.«01_k».proof.Proof.Stages

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Rows of the result's panels are gathered from along the first axis, rows of a buffer's panel. -/
abbrev hg : S147456x2x128.Gathers 0 S64x2x128 := gathers_S147456x2x128_S64x2x128

variable (d : Dev nD) (i : grid0.Coords)

/-- What the table may hold. -/
abbrev TblBuf (F : FTy → Type) (d : Dev nD) (i : grid0.Coords) : Type := Buf (Elt F) (tblV.view.loc (thr d i))
/-- What the result may hold. -/
abbrev AugBuf (F : FTy → Type) (d : Dev nD) (i : grid0.Coords) : Type := Buf (Elt F) (augV.view.loc (thr d i))
/-- What the index scratch may hold. -/
abbrev IdxBuf (F : FTy → Type) (d : Dev nD) (i : grid0.Coords) : Type := Buf (Elt F) (idxV.view.loc (thr d i))

/-- Every target is a row of the result. -/
theorem target_lt (w : ℕ) (hw : w < 32) (a : Fin 8) (n : Fin 576) : Perm.target w a.val n.val < 147456 := by
  have := Perm.inv_lt a n
  unfold Perm.target; omega

/-- Every row of every chunk is one of an image's 576. -/
theorem place_lt (j : Fin 9) (k : Fin 64) : 64 * j.val + k.val < 576 := by omega

/-- The result's row that patch `64 j + k` goes to in copy `t`. -/
def rowN (j : Fin 9) (t : Fin 24) (k : Fin 64) : Fin 147456 :=
  ⟨Perm.target (wnum i) (augOf t).val (64 * j.val + k.val), target_lt _ (wnum_lt i) (augOf t) ⟨64 * j.val + k.val, place_lt j k⟩⟩

/-- The list in the index scratch names those rows. -/
def ListOK (fo : IdxBuf F d i) : Prop := ∀ (j : Fin 9) (t : Fin 24) (k : Fin 64), (fo (ix2 (n0 := 72) (n1 := 64) (listOf j t) k) : BitVec 32).toNat = (rowN i j t k).val

/-- Every permuted row of an image is a row of the table. -/
theorem src_lt (w : ℕ) (hw : w < 32) (a : Fin 8) (m : Fin 576) : w * 576 + Perm.fwd a.val m.val < 18432 := by
  have := Perm.fwd_lt a m
  omega

/-- What the result holds in the end: row `m` of image `w` in augmentation `a` is the table's row that `a` shows there. -/
def augGoal (ft : S18432x3x2x128.Idx → Elt F .f32) : S147456x3x2x128.Idx → Elt F .f32 := fun x =>
  ft (ix4 (n0 := 18432) (n1 := 3) (n2 := 2) (n3 := 128)
    ⟨(x 0).val % 18432 / 576 * 576 + Perm.fwd ((x 0).val / 18432) ((x 0).val % 576),
      src_lt _ (by have h : (x 0).val < 147456 := (x 0).isLt; omega) ⟨(x 0).val / 18432, by have h : (x 0).val < 147456 := (x 0).isLt; omega⟩ ⟨(x 0).val % 576, by omega⟩⟩ (x 1) (x 2) (x 3))

/-- What the result is to hold in the row that copy `t` sends row `k` of chunk `j` to: that row. -/
theorem augGoal_rowN (ft : S18432x3x2x128.Idx → Elt F .f32) (j : Fin 9) (t : Fin 24) (k : Fin 64) (p : Fin 3) (y : Fin 2) (z : Fin 128) :
    augGoal ft (ix4 (rowN i j t k) p y z) = ft (ix4 ⟨wnum i * 576 + 64 * j.val + k.val, chunk_lt i j k⟩ p y z) := by
  have hw := wnum_lt i
  have hinv := Perm.inv_lt (augOf t) ⟨64 * j.val + k.val, place_lt j k⟩
  have hfi := Perm.fwd_inv (augOf t) ⟨64 * j.val + k.val, place_lt j k⟩
  have ha := (augOf t).isLt
  have hr : (rowN i j t k).val = (augOf t).val * 18432 + wnum i * 576 + Perm.inv (augOf t).val (64 * j.val + k.val) := rfl
  simp only at hinv hfi
  unfold augGoal
  refine congrArg ft (congrArg (fun r => ix4 (n0 := 18432) (n1 := 3) (n2 := 2) (n3 := 128) r p y z) (Fin.ext ?_))
  show (rowN i j t k).val % 18432 / 576 * 576 + Perm.fwd ((rowN i j t k).val / 18432) ((rowN i j t k).val % 576) = wnum i * 576 + 64 * j.val + k.val
  generalize Perm.inv (augOf t).val (64 * j.val + k.val) = v at *
  rw [hr, show ((augOf t).val * 18432 + wnum i * 576 + v) / 18432 = (augOf t).val by omega,
    show ((augOf t).val * 18432 + wnum i * 576 + v) % 576 = v by omega, hfi,
    show ((augOf t).val * 18432 + wnum i * 576 + v) % 18432 / 576 = wnum i by omega]
  omega

/-- A list has sixty-four entries. -/
theorem numel_list : 64 = S64.numel := rfl

/-! ## One row's pieces -/

/-- Row `r` of the result's panel `p`. -/
abbrev AugRow (p : Fin 3) (r : Fin 147456) (f : AugBuf F d i) : sProp 𝕄 :=
  (augPanelV p).view.loc (thr d i) ↦[((augPanelV p).view.slice (S147456x2x128.rowRect hg.axis r)).set]{fullShare} f
/-- List `r` of the index scratch, and one entry of it. -/
abbrev ListPts (q : PosShare TreeShare) (r : Fin 72) (fo : IdxBuf F d i) : sProp 𝕄 :=
  (listV r).view.loc (thr d i) ↦[(listV r).view.set]{q} fo
/-- Entry `k` of list `r` of the index scratch. -/
abbrev EntryPts (q : PosShare TreeShare) (r : Fin 72) (k : Fin 64) (fo : IdxBuf F d i) : sProp 𝕄 :=
  (listV r).view.loc (thr d i) ↦[{(listV r).view.emb (S64.rowMajor.symm (k.cast rfl))}]{q} fo
/-- Panel `p` of a row buffer, and one row of it. -/
abbrev PanelPts (q : PosShare TreeShare) (j : ℕ) (p : Fin 3) (fs : Buf (Elt F) ((bufV j).view.loc (thr d i))) : sProp 𝕄 :=
  (panelV j p).view.loc (thr d i) ↦[(panelV j p).view.set]{q} fs
/-- Row `k` of panel `p` of chunk `j`'s row buffer. -/
abbrev PanelRow (q : PosShare TreeShare) (j : ℕ) (p : Fin 3) (k : Fin 64) (fs : Buf (Elt F) ((bufV j).view.loc (thr d i))) : sProp 𝕄 :=
  (panelV j p).view.loc (thr d i) ↦[((panelV j p).view.slice (S64x2x128.rowRect hg.axis' k)).set]{q} fs

/-- Copy `t` reads its list at a third of it (the three panels share it) and its panel at an eighth (the eight
    augmentations share it). -/
def qList (t : Fin 24) : PosShare TreeShare := Idealize.ShloMosaic.pieceOf fullShare 3 (by omega) (panelOf t)
/-- The share of a panel that copy `t` reads by: one of eight, since eight copies read each panel. -/
def qPanel (t : Fin 24) : PosShare TreeShare := Idealize.ShloMosaic.pieceOf fullShare 8 (by omega) (augOf t)

/-- What copy `t` of chunk `j` takes besides its panel, and what it gives back: its rows of the result, its list. -/
def Rows (f : AugBuf F d i) (fo : IdxBuf F d i) (j : Fin 9) (t : Fin 24) : sProp 𝕄 :=
  iprop((bigSep Finset.univ fun k : Fin 64 => AugRow d i (panelOf t) (rowN i j t k) f) ∗ ListPts d i (qList t) (listOf j t) fo)

/-- What one row's transfer delivers. -/
abbrev delivered (f : AugBuf F d i) (fo : IdxBuf F d i) (j : Fin 9) (fs : Buf (Elt F) ((bufV j).view.loc (thr d i))) (t : Fin 24) (k : Fin 64) : sProp 𝕄 :=
  iprop((AugRow d i (panelOf t) (rowN i j t k) f ∗ EntryPts d i (qList t) (listOf j t) k fo) ∗ PanelRow d i (qPanel t) j (panelOf t) k fs)

/-- Transfer `u` of the batch is entry `u % 64` of copy `u / 64`. -/
def copyOf (u : Fin 1536) : Fin 24 := ⟨u.val / 64, by omega⟩
/-- The row that the `u`-th row copied of a chunk is. -/
def entryOf (u : Fin 1536) : Fin 64 := ⟨u.val % 64, by omega⟩

/-- The same by the transfer's number in the batch. -/
def Dlv (f : AugBuf F d i) (fo : IdxBuf F d i) (j : Fin 9) (fs : Buf (Elt F) ((bufV j).view.loc (thr d i))) (u : Fin 1536) : sProp 𝕄 :=
  delivered d i f fo j fs (copyOf u) (entryOf u)

/-- Holding part of a buffer is a fact that may be kept for later. -/
theorem storable_pts (ℓ : Loc nD τ sig) (I : Finset (Idx ℓ)) (q : PosShare TreeShare) (f : Buf (Elt F) ℓ) : Storable (upEmb : UEmb _ 𝕄) (ℓ ↦[I]{q} f) := inferInstance

/-- What a row copied delivers may be kept for later. -/
instance (f : AugBuf F d i) (fo : IdxBuf F d i) (j : Fin 9) (fs : Buf (Elt F) ((bufV j).view.loc (thr d i))) (u : Fin 1536) :
    Storable (upEmb : UEmb _ 𝕄) (Dlv d i f fo j fs u) := by
  have h1 := storable_pts (F := F) ((augPanelV (panelOf (copyOf u))).view.loc (thr d i)) ((augPanelV (panelOf (copyOf u))).view.slice (S147456x2x128.rowRect hg.axis (rowN i j (copyOf u) (entryOf u)))).set fullShare f
  have h2 := storable_pts (F := F) ((listV (listOf j (copyOf u))).view.loc (thr d i)) {(listV (listOf j (copyOf u))).view.emb (S64.rowMajor.symm ((entryOf u).cast numel_list))} (qList (copyOf u)) fo
  have h3 := storable_pts (F := F) ((panelV j (panelOf (copyOf u))).view.loc (thr d i)) ((panelV j (panelOf (copyOf u))).view.slice (S64x2x128.rowRect hg.axis' (entryOf u))).set (qPanel (copyOf u)) fs
  exact @Storable.sep _ _ _ _ _ _ _ _ (@Storable.sep _ _ _ _ _ _ _ _ h1 h2) h3

variable {d i}

/-- The row copied that is the `k`-th of copy `t`. -/
theorem Dlv_eq (f : AugBuf F d i) (fo : IdxBuf F d i) (j : Fin 9) (fs : Buf (Elt F) ((bufV j).view.loc (thr d i))) (t : Fin 24) (k : Fin 64) (h : 64 * t.val + k.val < 1536) :
    Dlv d i f fo j fs ⟨64 * t.val + k.val, h⟩ = delivered d i f fo j fs t k := by
  have h1 : copyOf ⟨64 * t.val + k.val, h⟩ = t := Fin.ext (show (64 * t.val + k.val) / 64 = t.val by omega)
  have h2 : entryOf ⟨64 * t.val + k.val, h⟩ = k := Fin.ext (show (64 * t.val + k.val) % 64 = k.val by omega)
  unfold Dlv
  rw [h1, h2]

/-- All the deliveries of a chunk, copy by copy. -/
theorem all_delivered (f : AugBuf F d i) (fo : IdxBuf F d i) (j : Fin 9) (fs : Buf (Elt F) ((bufV j).view.loc (thr d i))) :
    (bigSep Finset.univ (Dlv d i f fo j fs) : sProp 𝕄)
      = iprop(bigSep Finset.univ (Rows d i f fo j) ∗ bigSep Finset.univ fun t : Fin 24 => PanelPts d i (qPanel t) j (panelOf t) fs) := by
  rw [bigSep_univ_equiv (finProdFinEquiv : Fin 24 × Fin 64 ≃ Fin 1536), bigSep_univ_prod, ← bigSep_sep']
  refine bigSep_congr fun t _ => ?_
  have h1 : (fun k : Fin 64 => Dlv d i f fo j fs (finProdFinEquiv (t, k))) = fun k => delivered d i f fo j fs t k := funext fun k => by
    rw [← Dlv_eq f fo j fs t k (by omega)]
    exact congrArg _ (Fin.ext (by simp [finProdFinEquiv]; omega))
  rw [h1, bigSep_sep', bigSep_sep']
  refine congrArg₂ (fun A B : sProp 𝕄 => iprop(A ∗ B)) (congrArg (fun A : sProp 𝕄 => iprop((bigSep Finset.univ fun k : Fin 64 => AugRow d i (panelOf t) (rowN i j t k) f) ∗ A)) ?_) ?_
  · refine (Idealize.ShloMosaic.pointsTo_entries (thr d i) (listV (listOf j t)).view (fun k : Fin 64 => S64.rowMajor.symm (k.cast numel_list)) ?_ (qList t) fo).symm
    exact S64.rowMajor.symm.bijective.comp (finCongr numel_list).bijective
  · exact (Idealize.ShloMosaic.pointsTo_rows (thr d i) (panelV j (panelOf t)).view hg.axis' (qPanel t) fs).symm

/-! ## A copy as the batch's next 64 transfers -/

/-- A row's credit. -/
def rowCredit : ℕ := ((augPanelV 0).slice (S147456x2x128.rowRect hg.axis (0 : Fin 147456)) (S147456x2x128.stride_rowRect hg.axis _)).view.dmaCredit

/-- One row's credit, whichever row of whichever panel. -/
theorem credit_row (p : Fin 3) (r : Fin 147456) :
    ((augPanelV p).slice (S147456x2x128.rowRect hg.axis r) (S147456x2x128.stride_rowRect hg.axis _)).view.dmaCredit = rowCredit := rfl

/-- A row buffer is one of two. -/
theorem bufV_cases (j : ℕ) : bufV j = Memref.whole cc0_scratch2 ∨ bufV j = Memref.whole cc0_scratch3 := by
  unfold bufV; split
  · exact .inl rfl
  · exact .inr rfl

/-- A panel's credit is its sixty-four rows'. -/
theorem credit_panel (j : ℕ) (p : Fin 3) : (panelV j p).view.dmaCredit = 64 * rowCredit := by
  have h : (panelV j p).view.dmaCredit = sig.dmaCredit .scVector (Kind.scVector.table .vmem) (bufV j).view.buf S64x2x128 .f32 := rfl
  rw [h]
  rcases bufV_cases j with h | h <;> rw [h] <;> rfl

/-- What is read as entry `k` of list `r`. -/
theorem list_read (fo : IdxBuf F d i) (r : Fin 72) (k : Fin 64) :
    (listV r).view.read (Elt F) fo (S64.rowMajor.symm (k.cast rfl)) = fo (ix2 (n0 := 72) (n1 := 64) r k) := by
  have h : (S64.rowMajor.symm (k.cast rfl)) 0 = k := by
    have := S64.rowMajor.apply_symm_apply (k.cast rfl)
    have h2 := congrArg Fin.val this
    exact Fin.ext ((Shape.rowMajor_val_one (d := ![64]) _).symm.trans h2)
  refine congrArg fo ((listV_emb r _).trans ?_)
  exact congrArg (fun y => ix2 (n0 := 72) (n1 := 64) r y) h

/-! ## What a row's transfer writes -/

/-- A row's two coordinates besides the row's own. -/
abbrev row1 (y : (S147456x2x128.rowShape hg.axis).Idx) : Fin 2 := y (1 : Fin 3)
/-- A row's position within its last axis. -/
abbrev row2 (y : (S147456x2x128.rowShape hg.axis).Idx) : Fin 128 := y (2 : Fin 3)

/-- Where an element of one row of the result's panel lies in the result. -/
theorem augRow_emb (p : Fin 3) (r : Fin 147456) (y : (S147456x2x128.rowShape hg.axis).Idx) :
    ((augPanelV p).view.slice (S147456x2x128.rowRect hg.axis r)).emb y = ix4 (n0 := 147456) (n1 := 3) (n2 := 2) (n3 := 128) r p (row1 y) (row2 y) := by
  refine (augPanelV_emb p _).trans (funext fun a => Fin.ext ?_)
  match a with
  | ⟨0, _⟩ => exact congrArg Fin.val (Shape.rowRect_emb_axis (s := S147456x2x128) 0 r y)
  | ⟨1, _⟩ => rfl
  | ⟨2, _⟩ => show 0 + 1 * (row1 y).val = (row1 y).val; omega
  | ⟨3, _⟩ => show 0 + 1 * (row2 y).val = (row2 y).val; omega

/-- An offset of nothing, by single steps. -/
theorem one_offset (n : ℕ) : 0 + 1 * n = n := by omega

/-- Indices of equal shapes have the same coordinates. -/
theorem idxEquiv_symm_val {s s' : Shape} (h : s = s') (y : s'.Idx) (b : Fin s.rank) (b' : Fin s'.rank) (hb : b.val = b'.val) :
    ((Shape.idxEquiv h).symm y b).val = (y b').val := by
  subst h
  obtain rfl : b = b' := Fin.ext hb
  rfl

/-- The word that row `k` of chunk `j`'s panel `p` brings to place `y` of a row. -/
theorem payload_eq (ft : TblBuf F d i) (j : Fin 9) (p : Fin 3) (k : Fin 64)
    (fs : Buf (Elt F) ((bufV j).view.loc (thr d i))) (hfs : (bufV j).view.read (Elt F) fs = chunk d i ft j) (y : (S147456x2x128.rowShape hg.axis).Idx) :
    SparseCore.scatterRowPayload (thr d i) (panelV j p) hg fs k y
      = ft (ix4 (n0 := 18432) (n1 := 3) (n2 := 2) (n3 := 128) ⟨wnum i * 576 + 64 * j.val + k.val, chunk_lt i j k⟩ p (row1 y) (row2 y)) := by
  have h1 : SparseCore.scatterRowPayload (thr d i) (panelV j p) hg fs k y
      = (panelV j p).view.read (Elt F) fs ((S64x2x128.rowRect hg.axis' k).emb ((Shape.idxEquiv hg.rowShape_eq).symm y)) := rfl
  have h2 : (S64x2x128.rowRect hg.axis' k).emb ((Shape.idxEquiv hg.rowShape_eq).symm y) = ix3 (n0 := 64) (n1 := 2) (n2 := 128) k (row1 y) (row2 y) := by
    refine funext fun a => Fin.ext ?_
    match a with
    | ⟨0, _⟩ => exact congrArg Fin.val (Shape.rowRect_emb_axis (s := S64x2x128) 0 k _)
    | ⟨1, _⟩ =>
      have := idxEquiv_symm_val hg.rowShape_eq y ⟨1, by decide⟩ ⟨1, by decide⟩ rfl
      exact (one_offset _).trans this
    | ⟨2, _⟩ =>
      have := idxEquiv_symm_val hg.rowShape_eq y ⟨2, by decide⟩ ⟨2, by decide⟩ rfl
      exact (one_offset _).trans this
  have h3 : ∀ z : S64x2x128.Idx, (panelV j p).view.read (Elt F) fs z = (bufV j).view.read (Elt F) fs (ix4 (n0 := 64) (n1 := 3) (n2 := 2) (n3 := 128) (z 0) p (z 1) (z 2)) :=
    fun z => congrArg (fun x => _root_.cast (congrArg (Elt F) (bufV j).view.elt_eq) (fs x)) (panelV_emb j p z)
  rw [h1, h2, h3, hfs]
  rfl

/-- So the row it writes is the goal's. -/
theorem row_written (ft : TblBuf F d i) (f0 : AugBuf F d i) (j : Fin 9) (t : Fin 24) (k : Fin 64)
    (fs : Buf (Elt F) ((bufV j).view.loc (thr d i))) (hfs : (bufV j).view.read (Elt F) fs = chunk d i ft j) :
    (AugRow d i (panelOf t) (rowN i j t k) (((augPanelV (panelOf t)).view.slice (S147456x2x128.rowRect hg.axis (rowN i j t k))).write (Elt F) f0
        (SparseCore.scatterRowPayload (thr d i) (panelV j (panelOf t)) hg fs k) Finset.univ) : sProp 𝕄)
      = AugRow d i (panelOf t) (rowN i j t k) (augGoal ft) := by
  refine pointsTo_congr fun x hx => ?_
  obtain ⟨y, -, rfl⟩ := Finset.mem_map.mp hx
  refine (View.write_emb_of_mem _ _ (Finset.mem_univ y)).trans ?_
  refine (payload_eq ft j (panelOf t) k fs hfs y).trans ?_
  exact ((congrArg (augGoal ft) (augRow_emb (panelOf t) (rowN i j t k) y)).trans (augGoal_rowN i ft j t k _ _ _)).symm

/-! ## A copy's issue -/

variable {O : CellTallies nD τ sig (HIx 1)} {W : Waits sig (HIx 1)}

/-- Copy `t` of chunk `j`: it takes its rows of the result and its share of its panel, and enters its sixty-four rows in the chunk's batch. -/
theorem scatter_stage (ft : TblBuf F d i) (f0 : AugBuf F d i) (fo : IdxBuf F d i) (hfo : ListOK d i fo) (j : Fin 9) (t : Fin 24)
    (fs : Buf (Elt F) ((bufV j).view.loc (thr d i))) (hfs : (bufV j).view.read (Elt F) fs = chunk d i ft j) :
    Stage d i iprop((Rows d i f0 fo j t ∗ PanelPts d i (qPanel t) j (panelOf t) fs)
        ∗ Transfers.Batch countersEmb (thr d i) (.dma (ssem j)) (default : HIx 1) rowCredit (Dlv d i (augGoal ft) fo j fs) (64 * t.val) 0)
      (Transfers.Batch countersEmb (thr d i) (.dma (ssem j)) (default : HIx 1) rowCredit (Dlv d i (augGoal ft) fo j fs) (64 * t.val + 64) 0)
      (scatter j t) := fun k Q => by
  have hw : ∀ x : Fin 64, ((listV (listOf j t)).view.read (Elt F) fo (S64.rowMajor.symm (x.cast rfl)) : BitVec 32).toNat = (rowN i j t x).val := fun x =>
    (congrArg BitVec.toNat (list_read fo (listOf j t) x)).trans (hfo j t x)
  have hin : ∀ x, ((listV (listOf j t)).view.read (Elt F) fo x : BitVec 32).toNat < S147456x2x128.size hg.axis := fun x => by
    obtain ⟨z, rfl⟩ := S64.rowMajor.symm.surjective x
    exact (hw (z.cast rfl)).trans_lt (rowN i j t (z.cast rfl)).isLt
  unfold Rows
  iintro ⟨⟨⟨Ha, Hl⟩, Hp⟩, HB⟩ Hk
  iapply (RowBatch.wp_scatter countersEmb 𝒱₀ (thr d i) none (src := panelV j (panelOf t)) (dst := augPanelV (panelOf t)) (hg := hg)
    (offs := listV (listOf j t)) (hn := rfl) (sem := ssem j) (q := qPanel t) (qo := qList t) (fs := fs) (fo := fo) (fd := fun _ => f0)
    (D := Dlv d i (augGoal ft) fo j fs) (j := 64 * t.val) (u := 0) (default : HIx 1) rowCredit hin (fun x => rowN i j t x)
    (fun x => Fin.ext (hw x).symm) (fun x => credit_row _ _) (show 64 * t.val + 64 ≤ 1536 by omega) (Nat.zero_le _) ?_) $$ [Ha Hl Hp HB]
  · intro x
    refine Entails.of_eq ?_
    refine Eq.trans ?_ (Dlv_eq (augGoal ft) fo j fs t x (show 64 * t.val + x.val < 1536 from by have := x.isLt; have : x.val < 64 := this; omega)).symm
    exact congrArg (fun A : sProp 𝕄 => iprop((A ∗ EntryPts d i (qList t) (listOf j t) x fo) ∗ PanelRow d i (qPanel t) j (panelOf t) x fs)) (row_written ft f0 j t x fs hfs)
  · isplitl [Hp]; · iexact Hp
    isplitl [Ha]; · iexact Ha
    isplitl [Hl]; · iexact Hl
    iexact HB
  iexact Hk

/-- A wait for one copy's worth of the semaphore. -/
theorem scattered_stage (j : Fin 9) (t : Fin 24) (D : Fin 1536 → sProp 𝕄) :
    Stage d i iprop(Transfers.Batch countersEmb (thr d i) (.dma (ssem j)) (default : HIx 1) rowCredit D 1536 (64 * t.val * rowCredit) ∗ Ow d i O W)
      iprop(Transfers.Batch countersEmb (thr d i) (.dma (ssem j)) (default : HIx 1) rowCredit D 1536 (64 * (t.val + 1) * rowCredit) ∗ Ow d i O W)
      (scattered j t) := fun k Q => by
  unfold Ow
  iintro ⟨HB, #Hmw, %W', %hW, HO⟩ Hk
  iapply (Transfers.wp_waitBatchMulO countersEmb 𝒱₀ (thr d i) none (default : HIx 1) 64 (credit_panel j (panelOf t)) ?_) $$ [HB HO]
  · have : (64 * t.val + 64) * rowCredit ≤ 1536 * rowCredit := Nat.mul_le_mul_right _ (by omega)
    rw [Nat.add_mul] at this
    rw [Nat.mul_comm rowCredit]; exact this
  · isplitl [HB]; · iexact HB
    isplitl [HO]; · iexact HO
    iapply (Transfers.MayWaits.elim (SemLoc.dma (ssem j))) $$ Hmw
  iintro ⟨HB, HO⟩
  iapply Hk
  isplitl [HB]
  · iapply (Entails.of_eq (congrArg (fun u => Transfers.Batch countersEmb (thr d i) (.dma (ssem j)) (default : HIx 1) rowCredit D 1536 u)
      (show 64 * t.val * rowCredit + 64 * rowCredit = 64 * (t.val + 1) * rowCredit by rw [← Nat.add_mul, Nat.mul_add]))) $$ HB
  isplitr; · iexact Hmw
  iexists _
  isplitr
  swap; · iexact HO
  ipureintro
  intro p hp
  rcases Finset.mem_insert.mp hp with hp | hp
  · exact .inr (hp ▸ rfl)
  · exact hW p hp

end Cert.Proof.Tile

end
-- ==== Proof.Chunks.lean ====
/- The nine chunks, double buffered: what a subcore's copies take and leave. -/
module

public import proofs.«01_k».proof.Proof.Scatters

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {i : grid0.Coords}
variable {O : CellTallies nD τ sig (HIx 1)} {W : Waits sig (HIx 1)}

/-! ## A buffer as its panels, lent to eight augmentations -/

/-- A panel's elements, among its buffer's. -/
def panelSet (j : ℕ) (p : Fin 3) : Finset (bufV j).view.ty.Idx := (panelV j p).view.set

/-- An element of a row buffer is in panel `p` when its second coordinate is `p`. -/
theorem mem_panel (j : ℕ) (p : Fin 3) (z : S64x3x2x128.Idx) : (bufV j).view.emb z ∈ panelSet j p ↔ z 1 = p := by
  constructor
  · intro h
    obtain ⟨y, -, hy⟩ := Finset.mem_map.mp h
    have := (bufV j).view.emb.injective ((panelV_emb j p y).symm.trans hy)
    rw [← this]
  · rintro rfl
    refine Finset.mem_map.mpr ⟨ix3 (n0 := 64) (n1 := 2) (n2 := 128) (z 0) (z 2) (z 3), Finset.mem_univ _, (panelV_emb j _ _).trans (congrArg _ ?_)⟩
    exact (eq_ix4 (n0 := 64) (n1 := 3) (n2 := 2) (n3 := 128) z).symm

/-- A panel's elements are the row buffer's. -/
theorem panel_sub (j : ℕ) (p : Fin 3) (x : (bufV j).view.ty.Idx) (h : x ∈ panelSet j p) : ∃ z, (bufV j).view.emb z = x := by
  obtain ⟨y, -, hy⟩ := Finset.mem_map.mp h
  exact ⟨_, (panelV_emb j p y).symm.trans hy⟩

/-- Elements covered by a family of disjoint sets are held set by set. -/
theorem pointsTo_cover {T : Type} [Fintype T] (ℓ : Loc nD τ sig) (q : PosShare TreeShare) (f : Buf (Elt F) ℓ) (I : Finset (Idx ℓ)) (K : T → Finset (Idx ℓ))
    (hc : ∀ x, x ∈ I ↔ ∃ t, x ∈ K t) (hd : ∀ x t t', x ∈ K t → x ∈ K t' → t = t') :
    (ℓ ↦[I]{q} f : sProp 𝕄) = bigSep Finset.univ fun t => ℓ ↦[K t]{q} f := by
  have hI : I = Finset.univ.biUnion K := Finset.ext fun x => (hc x).trans (by simp only [Finset.mem_biUnion, Finset.mem_univ, true_and])
  rw [hI]
  exact pointsTo_biUnion Finset.univ K fun t _ t' _ h => Finset.disjoint_left.mpr fun x hx hx' => h (hd x t t' hx hx')

/-- An element of a row buffer is in one of its panels. -/
theorem mem_buf (j : ℕ) (x : (bufV j).view.ty.Idx) : x ∈ (bufV j).view.set ↔ ∃ p, x ∈ panelSet j p := by
  constructor
  · intro h
    obtain ⟨z, -, rfl⟩ := Finset.mem_map.mp h
    exact ⟨z 1, (mem_panel j _ z).mpr rfl⟩
  · rintro ⟨p, h⟩
    obtain ⟨z, rfl⟩ := panel_sub j p x h
    exact Finset.mem_map.mpr ⟨_, Finset.mem_univ _, rfl⟩

/-- No element is in two panels. -/
theorem panel_unique (j : ℕ) (x : (bufV j).view.ty.Idx) (p p' : Fin 3) (hx : x ∈ panelSet j p) (hx' : x ∈ panelSet j p') : p = p' := by
  obtain ⟨z, rfl⟩ := panel_sub j p x hx
  exact ((mem_panel j p _).mp hx).symm.trans ((mem_panel j p' _).mp hx')

/-- A row buffer is its three panels. -/
theorem buf_parts (j : ℕ) (q : PosShare TreeShare) (fs : Buf (Elt F) ((bufV j).view.loc (thr d i))) :
    ((bufV j).view.loc (thr d i) ↦[(bufV j).view.set]{q} fs : sProp 𝕄) = bigSep Finset.univ fun p : Fin 3 => PanelPts d i q j p fs :=
  pointsTo_cover _ q fs _ (panelSet j) (mem_buf j) (panel_unique j)

/-- A row buffer is a share of a panel for each of the twenty-four copies. -/
theorem buf_split (j : ℕ) (fs : Buf (Elt F) ((bufV j).view.loc (thr d i))) :
    (BufPts d i j fs : sProp 𝕄) = bigSep Finset.univ fun t : Fin 24 => PanelPts d i (qPanel t) j (panelOf t) fs := by
  refine (Idealize.ShloMosaic.pointsTo_piecesOf (ℓ := (bufV j).view.loc (thr d i)) (bufV j).view.set fs (show 0 < 8 by omega) fullShare).trans ?_
  refine (bigSep_congr fun a _ => buf_parts j _ fs).trans ?_
  refine (bigSep_univ_prod (fun x : Fin 8 × Fin 3 => (PanelPts d i (Idealize.ShloMosaic.pieceOf fullShare 8 (by omega) x.1) j x.2 fs : sProp 𝕄))).symm.trans ?_
  refine Eq.trans (bigSep_congr fun x _ => ?_) (bigSep_univ_equiv (finProdFinEquiv : Fin 8 × Fin 3 ≃ Fin 24) (fun t => (PanelPts d i (qPanel t) j (panelOf t) fs : sProp 𝕄))).symm
  have ha : augOf (finProdFinEquiv x) = x.1 := Fin.ext (show (x.2.val + 3 * x.1.val) / 3 = x.1.val by omega)
  have hp : panelOf (finProdFinEquiv x) = x.2 := Fin.ext (show (x.2.val + 3 * x.1.val) % 3 = x.2.val by omega)
  unfold qPanel
  rw [ha, hp]

/-! ## A chunk's copies issued, and awaited -/

/-- Chunk `j`'s copies under way. -/
def Scattering (ft : TblBuf F d i) (fo : IdxBuf F d i) (j : Fin 9) : sProp 𝕄 :=
  iprop(∃ fs, Transfers.Batch countersEmb (thr d i) (.dma (ssem j)) (default : HIx 1) rowCredit (Dlv d i (augGoal ft) fo j fs) 1536 0 ∗ Gsem0 (F := F) d i j)

/-- All copies of a chunk that has arrived are sent, on one batch. -/
theorem scatters_stage (ft : TblBuf F d i) (f0 : AugBuf F d i) (fo : IdxBuf F d i) (hfo : ListOK d i fo) (j : Fin 9) :
    Stage d i iprop(Full d i ft j ∗ bigSep Finset.univ (Rows d i f0 fo j)) (Scattering ft fo j) (scatters j) := by
  have h : ∀ fs : Buf (Elt F) ((bufV j).view.loc (thr d i)), (bufV j).view.read (Elt F) fs = chunk d i ft j →
      Stage d i iprop((BufPts d i j fs ∗ Gsem0 (F := F) d i j ∗ Ssem0 (F := F) d i j) ∗ bigSep Finset.univ (Rows d i f0 fo j)) (Scattering ft fo j) (scatters j) := fun fs hfs => by
    have hs := Stage.each_fam (d := d) (i := i) (fun m => iprop(Transfers.Batch countersEmb (thr d i) (.dma (ssem j)) (default : HIx 1) rowCredit (Dlv d i (augGoal ft) fo j fs) (64 * m) 0))
      (fun t => iprop(Rows d i f0 fo j t ∗ PanelPts d i (qPanel t) j (panelOf t) fs)) (fun _ => iprop(emp)) 0 (f := scatter j) (fun t => by
        rw [Nat.zero_add]
        rw [Nat.mul_succ]
        refine (scatter_stage ft f0 fo hfo j t fs hfs).conseq (Entails.refl _) ?_
        iintro H
        isplitr; · iempintro
        iexact H)
    refine ((hs.frame (Gsem0 (F := F) d i j)).conseq (X' := iprop(((bigSep Finset.univ fun t : Fin 24 => iprop(Rows d i f0 fo j t ∗ PanelPts d i (qPanel t) j (panelOf t) fs))
      ∗ Transfers.Batch countersEmb (thr d i) (.dma (ssem j)) (default : HIx 1) rowCredit (Dlv d i (augGoal ft) fo j fs) 0 0) ∗ Gsem0 (F := F) d i j)) (Entails.refl _) ?_).update ?_
    · unfold Scattering
      iintro ⟨⟨-, HB⟩, Hg⟩
      iexists fs
      isplitl [HB] <;> iassumption
    · rw [buf_split, bigSep_sep']
      iintro ⟨⟨Hb, Hg, Hs⟩, HR⟩
      imod (Transfers.batch_alloc' countersEmb (thr d i) (sm := .dma (ssem j)) (default : HIx 1) rowCredit (Dlv d i (augGoal ft) fo j fs) (E := Set.univ)) $$ Hs with HB
      imodintro
      isplitr [Hg]
      · isplitr [HB]
        · isplitl [HR] <;> iassumption
        · iexact HB
      · iexact Hg
  intro k Q
  unfold Full
  iintro ⟨⟨⟨%fs, %hfs, Hb⟩, Hg, Hs⟩, HR⟩ Hk
  iapply (h fs hfs k Q) $$ [Hb Hg Hs HR]
  · isplitr [HR]
    · isplitl [Hb]; · iexact Hb
      isplitl [Hg] <;> iassumption
    · iexact HR
  iexact Hk

/-- A row's credit is not nothing. -/
theorem rowCredit_pos : 0 < rowCredit := View.dmaCredit_pos _ (by decide)

/-- When all copies of a chunk have landed, its rows of the result hold what they are to, and its row buffer is idle. -/
theorem scattereds_stage (ft : TblBuf F d i) (fo : IdxBuf F d i) (j : Fin 9) :
    Stage d i iprop(Scattering ft fo j ∗ Ow d i O W) iprop((Idle (F := F) d i j ∗ bigSep Finset.univ (Rows d i (augGoal ft) fo j)) ∗ Ow d i O W) (scattereds j) := by
  have h : ∀ fs : Buf (Elt F) ((bufV j).view.loc (thr d i)),
      Stage d i iprop((Transfers.Batch countersEmb (thr d i) (.dma (ssem j)) (default : HIx 1) rowCredit (Dlv d i (augGoal ft) fo j fs) 1536 0 ∗ Ow d i O W) ∗ Gsem0 (F := F) d i j)
        iprop((Idle (F := F) d i j ∗ bigSep Finset.univ (Rows d i (augGoal ft) fo j)) ∗ Ow d i O W) (scattereds j) := fun fs => by
    have hs := Stage.each (d := d) (i := i) (fun m => iprop(Transfers.Batch countersEmb (thr d i) (.dma (ssem j)) (default : HIx 1) rowCredit (Dlv d i (augGoal ft) fo j fs) 1536 (64 * m * rowCredit) ∗ Ow d i O W))
      0 (f := scattered j) (fun t => by
        rw [Nat.zero_add]
        exact scattered_stage j t _)
    refine ((hs.frame (Gsem0 (F := F) d i j)).conseq ?_ (Entails.refl _)).updated ?_
    · rw [show 64 * 0 * rowCredit = 0 by omega]
    · rw [show 64 * (0 + 24) * rowCredit = rowCredit * 1536 by omega]
      iintro ⟨⟨HB, HO⟩, Hg⟩
      imod (Transfers.batch_collect' countersEmb (thr d i) (ι := (default : HIx 1)) rowCredit_pos) $$ HB with ⟨HD, Hs⟩
      imodintro
      ihave HD' := (Entails.of_eq (all_delivered (augGoal ft) fo j fs)) $$ HD
      icases HD' with ⟨HR, HP⟩
      isplitr [HO]
      · isplitr [HR]
        · unfold Idle
          isplitl [HP]
          · iexists fs
            iapply (Entails.of_eq (buf_split j fs).symm) $$ HP
          · isplitl [Hg] <;> iassumption
        · iexact HR
      · iexact HO
  intro k Q
  unfold Scattering
  iintro ⟨⟨%fs, HB, Hg⟩, HO⟩ Hk
  iapply (h fs k Q) $$ [HB Hg HO]
  · isplitr [Hg]
    · isplitl [HB] <;> iassumption
    · iexact Hg
  iexact Hk

/-! ## All nine -/

/-- Nine, as the first, seven more and the last. -/
theorem nine_head (Φ : Fin 9 → sProp 𝕄) :
    bigSep Finset.univ Φ = iprop(Φ 0 ∗ (bigSep Finset.univ fun t : Fin 7 => Φ ⟨t.val + 1, by omega⟩) ∗ Φ 8) := by
  rw [Idealize.ShloMosaic.bigSep_univ_succ, bigSep_univ_equiv (finSumFinEquiv : Fin 7 ⊕ Fin 1 ≃ Fin 8), bigSep_univ_sum, bigSep_univ_of_subsingleton (0 : Fin 1)]
  rfl

/-- Nine, as the first seven and the last two. -/
theorem nine_tail (Φ : Fin 9 → sProp 𝕄) :
    bigSep Finset.univ Φ = iprop((bigSep Finset.univ fun t : Fin 7 => Φ ⟨t.val, by omega⟩) ∗ Φ 7 ∗ Φ 8) := by
  rw [bigSep_univ_equiv (finSumFinEquiv : Fin 7 ⊕ Fin 2 ≃ Fin 9), bigSep_univ_sum, Idealize.ShloMosaic.bigSep_univ_succ (m := 1), bigSep_univ_of_subsingleton (0 : Fin 1)]
  rfl

/-- A buffer and its two semaphores at rest. -/
def IdleOf (d : Dev nD) (i : grid0.Coords) (b : Memref sig .scVector .vmem S64x3x2x128 .f32) (g s : DmaSem sig) : sProp 𝕄 :=
  iprop((∃ f, b.view.loc (thr d i) ↦[b.view.set]{fullShare} f) ∗ semVal ((thr d i), .dma g) 0 ∗ semVal ((thr d i), .dma s) 0)

/-- Chunks two apart have one row buffer. -/
theorem idle_parity (j : ℕ) : (Idle d i (j + 2) : sProp 𝕄) = Idle d i j := by
  have hb : bufV (j + 2) = bufV j := by unfold bufV; rw [Nat.add_mod_right]
  have hg : gsem (j + 2) = gsem j := by unfold gsem; rw [Nat.add_mod_right]
  have hs : ssem (j + 2) = ssem j := by unfold ssem; rw [Nat.add_mod_right]
  show IdleOf d i (bufV (j + 2)) (gsem (j + 2)) (ssem (j + 2)) = IdleOf d i (bufV j) (gsem j) (ssem j)
  rw [hb, hg, hs]

/-- The chunk numbered `m`. -/
def ch (m : ℕ) : Fin 9 := ⟨min m 8, by omega⟩
/-- The chunk with a number below nine. -/
theorem ch_eq (m : ℕ) (h : m < 9) : ch m = ⟨m, h⟩ := Fin.ext (by show min m 8 = m; omega)

variable (O W)

/-- Between rounds: chunk `m` being scattered, the one after it being fetched. -/
def Running (q : PosShare TreeShare) (ft : TblBuf F d i) (fo : IdxBuf F d i) (m : ℕ) : sProp 𝕄 :=
  iprop((Scattering ft fo (ch m) ∗ Fetching d i q ft (ch (m + 1))) ∗ Ow d i O W)

variable {O W}

/-- Round `t` of the nine chunks: chunk `t`'s rows of the result come to hold what they are to. -/
theorem round_stage (q : PosShare TreeShare) (ft : TblBuf F d i) (f0 : AugBuf F d i) (fo : IdxBuf F d i) (hfo : ListOK d i fo) (t : Fin 7) :
    Stage d i iprop((bigSep Finset.univ (Rows d i f0 fo ⟨t.val + 1, by omega⟩)) ∗ Running O W q ft fo t.val)
      iprop((bigSep Finset.univ (Rows d i (augGoal ft) fo ⟨t.val, by omega⟩)) ∗ Running O W q ft fo (t.val + 1)) (round t) := fun k Q => by
  unfold Running
  rw [ch_eq t.val (by omega), ch_eq (t.val + 1) (by omega), ch_eq (t.val + 1 + 1) (by omega)]
  iintro ⟨HR, ⟨HS, HF⟩, HO⟩ Hk
  iapply (fetched_stage q ft ⟨t.val + 1, by omega⟩ _ Q) $$ [HF HO]
  · isplitl [HF]; · iexact HF
    iexact HO
  iintro ⟨⟨HF, HT⟩, HO⟩
  iapply (scatters_stage ft f0 fo hfo _ _ Q) $$ [HF HR]
  · isplitl [HF]; · iexact HF
    iexact HR
  iintro HS'
  iapply (scattereds_stage ft fo _ _ Q) $$ [HS HO]
  · isplitl [HS]; · iexact HS
    iexact HO
  iintro ⟨⟨HI, HR⟩, HO⟩
  iapply (fetch_stage q ft _ _ Q) $$ [HI HT]
  · isplitl [HI]
    · iapply (Entails.of_eq (idle_parity (F := F) (d := d) (i := i) t.val).symm) $$ HI
    · iexact HT
  iintro HF
  iapply Hk
  isplitl [HR]; · iexact HR
  isplitr [HO]
  · isplitl [HS'] <;> iassumption
  · iexact HO

/-- All nine chunks fetched and scattered: every row of the subcore's holds its value. -/
theorem chunks_stage (q : PosShare TreeShare) (ft : TblBuf F d i) (f0 : AugBuf F d i) (fo : IdxBuf F d i) (hfo : ListOK d i fo) :
    Stage d i iprop((((Idle (F := F) d i 0 ∗ Idle (F := F) d i 1) ∗ Tbl d i q ft) ∗ bigSep Finset.univ fun j => bigSep Finset.univ (Rows d i f0 fo j)) ∗ Ow d i O W)
      iprop((((Idle (F := F) d i 0 ∗ Idle (F := F) d i 1) ∗ Tbl d i q ft) ∗ bigSep Finset.univ fun j => bigSep Finset.univ (Rows d i (augGoal ft) fo j)) ∗ Ow d i O W) chunks := fun k Q => by
  have hr := Stage.each_fam (Running O W q ft fo) (fun t : Fin 7 => bigSep Finset.univ (Rows d i f0 fo ⟨t.val + 1, by omega⟩)) (fun t : Fin 7 => bigSep Finset.univ (Rows d i (augGoal ft) fo ⟨t.val, by omega⟩))
    0 (f := round) (fun t => by rw [Nat.zero_add]; exact round_stage q ft f0 fo hfo t)
  rw [nine_head, nine_tail]
  unfold chunks
  iintro ⟨⟨⟨⟨H0, H1⟩, HT⟩, HR0, HR, HR8⟩, HO⟩ Hk
  iapply (fetch_stage q ft 0 _ Q) $$ [H0 HT]
  · isplitl [H0]; · iexact H0
    iexact HT
  iintro HF
  iapply (fetched_stage q ft 0 _ Q) $$ [HF HO]
  · isplitl [HF]; · iexact HF
    iexact HO
  iintro ⟨⟨HF, HT⟩, HO⟩
  iapply (scatters_stage ft f0 fo hfo 0 _ Q) $$ [HF HR0]
  · isplitl [HF]; · iexact HF
    iexact HR0
  iintro HS
  iapply (fetch_stage q ft 1 _ Q) $$ [H1 HT]
  · isplitl [H1]; · iexact H1
    iexact HT
  iintro HF
  iapply (hr _ Q) $$ [HR HS HF HO]
  · isplitl [HR]; · iexact HR
    unfold Running
    isplitr [HO]
    · isplitl [HS]
      · iexact HS
      · iexact HF
    · iexact HO
  unfold Running
  iintro ⟨HG, ⟨HS, HF⟩, HO⟩
  iapply (fetched_stage q ft 8 _ Q) $$ [HF HO]
  · isplitl [HF]; · iexact HF
    iexact HO
  iintro ⟨⟨HF, HT⟩, HO⟩
  iapply (scatters_stage ft f0 fo hfo 8 _ Q) $$ [HF HR8]
  · isplitl [HF]; · iexact HF
    iexact HR8
  iintro HS'
  iapply (scattereds_stage ft fo 7 _ Q) $$ [HS HO]
  · isplitl [HS]; · iexact HS
    iexact HO
  iintro ⟨⟨H1, HG7⟩, HO⟩
  iapply (scattereds_stage ft fo 8 _ Q) $$ [HS' HO]
  · isplitl [HS']; · iexact HS'
    iexact HO
  iintro ⟨⟨H0, HG8⟩, HO⟩
  iapply Hk
  isplitr [HO]
  · isplitr [HG HG7 HG8]
    · isplitr [HT]
      · isplitl [H0]
        · iexact H0
        · iexact H1
      · iexact HT
    · isplitl [HG]; · iexact HG
      isplitl [HG7] <;> iassumption
  · iexact HO

end Cert.Proof.Tile

end
-- ==== Proof.Inverse.lean ====
/- The inverse permutations: which subcore makes which row, and what it writes. -/
module

public import proofs.«01_k».proof.Proof.Stages

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {i : grid0.Coords}
variable {O : CellTallies nD τ sig (HIx 1)} {W : Waits sig (HIx 1)}

/-! ## Numbers -/

/-- Sixteen lanes hold the sixteen entries. -/
theorem lanes : ∀ (a : Fin 8) (t : Fin 36) (y : Fin 16), sixteen a t (ix1 (n := 16) y) = BitVec.ofNat 32 (Perm.inv a.val (16 * t.val + y.val)) := by
  decide +kernel

/-- The sixteen entries computed are entries of the inverse permutation. -/
theorem sixteen_eq (a : Fin 8) (t : Fin 36) (y : S16.Idx) : sixteen a t y = BitVec.ofNat 32 (Perm.inv a.val (16 * t.val + (y 0).val)) := by
  rw [← lanes a t (y 0)]
  exact congrArg _ (eq_ix1 (n := 16) y)

/-- Subcore `a`, and no other, makes row `a`. -/
theorem makes_iff : ∀ (c : Fin 2) (s : Fin 16) (a : Fin 8),
    Scalar.cmpi .ne (Scalar.extui (Scalar.cmpi .eq (Scalar.addi (Scalar.muli (BitVec.ofNat 32 s.val) 2#32) (BitVec.ofNat 32 c.val)) (BitVec.ofNat 32 a.val))) 0#32 = 1#1 ↔ 2 * s.val + c.val = a.val := by
  decide +kernel

/-! ## The row buffer -/

/-- The scratch for one row and what it holds. -/
abbrev RowPts (d : Dev nD) (i : grid0.Coords) (f : Buf (Elt F) (rowV.view.loc (thr d i))) : sProp 𝕄 := rowV.view.loc (thr d i) ↦{fullShare} f

/-- The row buffer, its first `16 t` entries made. -/
def Made (d : Dev nD) (i : grid0.Coords) (a : Fin 8) (t : ℕ) : sProp 𝕄 :=
  iprop(∃ f, ⌜∀ n : Fin 576, n.val < 16 * t → f (ix1 (n := 576) n) = BitVec.ofNat 32 (Perm.inv a.val n.val)⌝ ∗ RowPts (F := F) d i f)

/-- When the row is right up to one group of sixteen and that group is stored, it is right up to the next. -/
theorem made_step (a : Fin 8) (t : Fin 36) (f : Buf (Elt F) (rowV.view.loc (thr d i)))
    (hf : ∀ n : Fin 576, n.val < 16 * t.val → f (ix1 (n := 576) n) = BitVec.ofNat 32 (Perm.inv a.val n.val)) (n : Fin 576) (hn : n.val < 16 * (t.val + 1)) :
    (rowV.access (sixteenR t)).write (Elt F) f (sixteen a t) Finset.univ (ix1 (n := 576) n) = BitVec.ofNat 32 (Perm.inv a.val n.val) := by
  by_cases h : n.val < 16 * t.val
  · refine (View.write_of_not_mem _ _ _ fun hm => ?_).trans (hf n h)
    obtain ⟨y, -, hy⟩ := Finset.mem_map.mp hm
    have h2 := congrArg (fun z : S576.Idx => (z 0).val) ((sixteenR_emb t y).symm.trans hy)
    have h3 : 16 * t.val + (y 0).val = n.val := h2
    omega
  · have he : (rowV.access (sixteenR t)).emb (ix1 (n := 16) ⟨n.val - 16 * t.val, by omega⟩) = ix1 (n := 576) n := by
      refine (sixteenR_emb t _).trans (congrArg (ix1 (n := 576)) (Fin.ext ?_))
      show 16 * t.val + (n.val - 16 * t.val) = n.val
      omega
    refine (congrArg ((rowV.access (sixteenR t)).write (Elt F) f (sixteen a t) Finset.univ) he).symm.trans ?_
    refine (View.write_emb_of_mem _ _ (Finset.mem_univ _)).trans ?_
    refine (sixteen_eq a t _).trans ?_
    show BitVec.ofNat 32 (Perm.inv a.val (16 * t.val + (n.val - 16 * t.val))) = _
    rw [show 16 * t.val + (n.val - 16 * t.val) = n.val by omega]

/-- Storing a group of sixteen carries the row on by that group. -/
theorem put_stage (a : Fin 8) (t : Fin 36) : Stage d i (Made (F := F) d i a t.val) (Made (F := F) d i a (t.val + 1)) (put a t) := fun k Q => by
  unfold Made
  iintro ⟨%f, %hf, H⟩ Hk
  iapply (wp_load_rect 𝒱₀ (thr d i) none Set.univ (m := rowV) (r := sixteenR t) (S := Finset.univ) (Finset.subset_univ _)) $$ H
  iintro H
  iapply (wp_store 𝒱₀ (thr d i) none Set.univ (m := rowV) (r := sixteenR t) (S := Finset.univ) (Finset.subset_univ _)) $$ H
  iintro H
  iapply Hk
  iexists _
  isplitr
  swap; · iexact H
  ipureintro
  exact made_step a t f hf

/-! ## A row copied out -/

/-- The inverses, all eight rows. -/
def invGoal : S8x576.Idx → Elt F .i32 := fun x => BitVec.ofNat 32 (Perm.inv (x 0).val (x 1).val)

/-- What subcore `i` has of the inverses' array: the row with its number. -/
def invOwn (i : grid0.Coords) : Finset S8x576.Idx := Finset.univ.filter fun x => (x 0).val = wnum i

/-- What the inverses may hold. -/
abbrev InvBuf (F : FTy → Type) (d : Dev nD) (i : grid0.Coords) : Type := Buf (Elt F) (invV.view.loc (thr d i))
/-- The rows of the inverses that this subcore makes. -/
abbrev InvPts (d : Dev nD) (i : grid0.Coords) (f : InvBuf F d i) : sProp 𝕄 := invV.view.loc (thr d i) ↦[invOwn i]{fullShare} f

/-- Subcore `a` owns row `a`. -/
theorem invOwn_row (a : Fin 8) (h : wnum i = a.val) : invOwn i = (invRowV a).view.set := by
  ext x
  unfold invOwn
  rw [Finset.mem_filter]
  constructor
  · rintro ⟨-, hx⟩
    have hx0 : x 0 = a := Fin.ext (hx.trans h)
    refine Finset.mem_map.mpr ⟨ix1 (n := 576) (x 1), Finset.mem_univ _, (invRowV_emb a _).trans ?_⟩
    rw [← hx0]
    exact (eq_ix2 (n0 := 8) (n1 := 576) x).symm
  · intro hx
    obtain ⟨y, -, rfl⟩ := Finset.mem_map.mp hx
    refine ⟨Finset.mem_univ _, ?_⟩
    exact (congrArg (fun z : S8x576.Idx => (z 0).val) (invRowV_emb a y)).trans h.symm

/-- The row copied out is the one wanted. -/
theorem invRow_written (a : Fin 8) (f : Buf (Elt F) (rowV.view.loc (thr d i))) (g : InvBuf F d i)
    (hf : ∀ n : Fin 576, n.val < 16 * 36 → f (ix1 (n := 576) n) = BitVec.ofNat 32 (Perm.inv a.val n.val)) (x : S8x576.Idx) (hx : x ∈ (invRowV a).view.set) :
    (invRowV a).view.write (Elt F) g (rowV.view.read (Elt F) f) Finset.univ x = invGoal (F := F) x := by
  obtain ⟨y, -, rfl⟩ := Finset.mem_map.mp hx
  refine (View.write_emb_of_mem _ _ (Finset.mem_univ _)).trans ?_
  refine (show _ = f y from rfl).trans ?_
  rw [eq_ix1 (n := 576) y]
  refine (hf (y 0) (y 0).isLt).trans ?_
  unfold invGoal
  exact congrArg (fun z : S8x576.Idx => (BitVec.ofNat 32 (Perm.inv (z 0).val (z 1).val) : BitVec 32)) (invRowV_emb a _).symm

/-- Nothing is counted on the semaphore of row `a`'s copy. -/
abbrev Isem0 (d : Dev nD) (i : grid0.Coords) (a : Fin 8) : sProp 𝕄 := semVal ((thr d i), .dma (isem a)) 0

/-- Subcore `a` computes row `a` and copies it out. -/
theorem invRow_stage (a : Fin 8) (h : wnum i = a.val) (g : InvBuf F d i) :
    Stage d i iprop(((InvPts d i g ∗ ∃ f, RowPts (F := F) d i f) ∗ Isem0 (F := F) d i a) ∗ Ow d i O W)
      iprop(((InvPts d i (invGoal (F := F)) ∗ ∃ f, RowPts (F := F) d i f) ∗ Isem0 (F := F) d i a) ∗ Ow d i O W) (invRow a) := fun k Q => by
  have hp := Stage.each (d := d) (i := i) (fun t => Made (F := F) d i a t) 0 (f := put a) (fun t => by rw [Nat.zero_add]; exact put_stage a t)
  have hr : rowV.view.set = Finset.univ := View.set_whole _
  have hI : ∀ g : InvBuf F d i, (InvPts d i g : sProp 𝕄) = ((invRowV a).view.loc (thr d i) ↦[(invRowV a).view.set]{fullShare} g) := fun g =>
    congrArg (fun X : Finset S8x576.Idx => (invV.view.loc (thr d i) ↦[X]{fullShare} g : sProp 𝕄)) (invOwn_row a h)
  unfold invRow
  rw [hI g, hI]
  iintro ⟨⟨⟨HI, %f, HR⟩, Hs⟩, HO⟩ Hk
  iapply (hp _ Q) $$ [HR]
  · unfold Made
    iexists f
    isplitr
    · ipureintro; intro n hn; omega
    · iexact HR
  unfold Made
  iintro ⟨%f, %hf, HR⟩
  ihave HR' := (Entails.of_eq (show (RowPts (F := F) d i f : sProp 𝕄) = (rowV.view.loc (thr d i) ↦[rowV.view.set]{fullShare} f) by rw [hr])) $$ HR
  iapply (copy_stage (F := F) (d := d) (i := i) rowV (invRowV a) (isem a) (Memref.isWhole_whole _).wordExact (invRowV_exact a) ⟨Or.inl rfl, trivial⟩ (by decide) fullShare f g _ Q) $$ [HR' HI Hs]
  · isplitl [HR']; · iexact HR'
    isplitl [HI]; · iexact HI
    iexact Hs
  iintro Hf
  iapply (copied_stage (F := F) (d := d) (i := i) (O := O) (W := W) rowV (invRowV a) (isem a) (Memref.isWhole_whole _).wordExact (invRowV_exact a) _ _ Q) $$ [Hf HO]
  · isplitl [Hf]; · iexact Hf
    iexact HO
  iintro ⟨⟨⟨HI, HR⟩, Hs⟩, HO⟩
  iapply Hk
  isplitr [HO]
  · isplitr [Hs]
    · isplitl [HI]
      · iapply (Entails.of_eq (pointsTo_congr (fun x hx => invRow_written a f g hf x hx))) $$ HI
      · iexists f
        rw [hr]
        iexact HR
    · iexact Hs
  · iexact HO

/-! ## All eight -/

variable (O W)

/-- After the first `m` rows' turns. -/
def Turns (d : Dev nD) (i : grid0.Coords) (g : InvBuf F d i) (m : ℕ) : sProp 𝕄 :=
  iprop(((InvPts d i (if wnum i < m then invGoal (F := F) else g) ∗ ∃ f, RowPts (F := F) d i f)) ∗ Ow d i O W)

variable {O W}

/-- At its turn a row is made by its subcore and left alone by the others. -/
theorem turn_stage (g : InvBuf F d i) (a : Fin 8) :
    Stage d i iprop(Isem0 (F := F) d i a ∗ Turns O W d i g a.val) iprop(Isem0 (F := F) d i a ∗ Turns O W d i g (a.val + 1)) (invRowIf a) := fun k Q => by
  have hm : Scalar.cmpi .ne (Scalar.extui (Scalar.cmpi .eq (wid i) (BitVec.ofNat 32 a.val))) 0#32 = 1#1 ↔ wnum i = a.val := makes_iff (i 0) (i 1) a
  unfold invRowIf Turns
  by_cases h : wnum i = a.val
  · rw [dif_pos (hm.mpr h), if_neg (by omega), if_pos (by omega)]
    iintro ⟨Hs, ⟨HI, HR⟩, HO⟩ Hk
    iapply (invRow_stage a h g k Q) $$ [Hs HI HR HO]
    · isplitr [HO]
      · isplitr [Hs]
        · isplitl [HI]; · iexact HI
          iexact HR
        · iexact Hs
      · iexact HO
    iintro ⟨⟨⟨HI, HR⟩, Hs⟩, HO⟩
    iapply Hk
    isplitl [Hs]; · iexact Hs
    isplitr [HO]
    · isplitl [HI]; · iexact HI
      iexact HR
    · iexact HO
  · have hg : (if wnum i < a.val + 1 then invGoal (F := F) else g) = if wnum i < a.val then invGoal (F := F) else g := by
      by_cases h' : wnum i < a.val
      · rw [if_pos h', if_pos (by omega)]
      · rw [if_neg h', if_neg (by omega)]
    rw [dif_neg (fun hc => h (hm.mp hc)), hg]
    iintro H Hk
    iapply Hk
    iexact H

/-- After all eight turns this subcore's rows of the inverses hold what they are to. -/
theorem turns_stage (g : InvBuf F d i) :
    Stage d i iprop((bigSep Finset.univ (Isem0 (F := F) d i)) ∗ (InvPts d i g ∗ ∃ f, RowPts (F := F) d i f) ∗ Ow d i O W)
      iprop((bigSep Finset.univ (Isem0 (F := F) d i)) ∗ (InvPts d i (invGoal (F := F)) ∗ ∃ f, RowPts (F := F) d i f) ∗ Ow d i O W) (each 8 invRowIf) := by
  have hs := Stage.each_fam (Turns O W d i g) (Isem0 (F := F) d i) (Isem0 (F := F) d i) 0 (f := invRowIf) (fun a => by rw [Nat.zero_add]; exact turn_stage g a)
  have h0 : (InvPts d i (if wnum i < 0 then invGoal (F := F) else g) : sProp 𝕄) = InvPts d i g := by rw [if_neg (by omega)]
  have h8 : (InvPts d i (if wnum i < 0 + 8 then invGoal (F := F) else g) : sProp 𝕄) = InvPts d i (invGoal (F := F)) := by
    by_cases h : wnum i < 8
    · rw [if_pos (by omega)]
    · rw [if_neg (by omega)]
      refine pointsTo_congr fun x hx => ?_
      have h1 : (x 0).val = wnum i := (Finset.mem_filter.mp hx).2
      have h2 : (x 0).val < 8 := (x 0).isLt
      omega
  unfold Turns at hs
  rw [h0, h8] at hs
  exact hs

end Cert.Proof.Tile

end
-- ==== Proof.Body.lean ====
/- A subcore's whole task: its rows of the result, its row of the inverses. -/
module

public import proofs.«01_k».proof.Proof.Chunks
public import proofs.«01_k».proof.Proof.Inverse

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {i : grid0.Coords}
variable {O : CellTallies nD τ sig (HIx 1)} {W : Waits sig (HIx 1)}

/-! ## The rows of the result that are the subcore's -/

/-- The number of the row that copy `t` sends row `k` of chunk `j` to. -/
theorem rowN_val (j : Fin 9) (t : Fin 24) (k : Fin 64) :
    (rowN i j t k).val = (augOf t).val * 18432 + wnum i * 576 + Perm.inv (augOf t).val (64 * j.val + k.val) := rfl

/-- The elements of the result that this subcore writes: its image's rows, in every view. -/
def augOwn (i : grid0.Coords) : Finset S147456x3x2x128.Idx := Finset.univ.filter fun x => (x 0).val % 18432 / 576 = wnum i

/-- Those elements and what they hold. -/
abbrev AugPts (d : Dev nD) (i : grid0.Coords) (f : AugBuf F d i) : sProp 𝕄 := augV.view.loc (thr d i) ↦[augOwn i]{fullShare} f

/-- The elements of one row of one panel. -/
def augSet (i : grid0.Coords) (x : Fin 9 × Fin 24 × Fin 64) : Finset S147456x3x2x128.Idx :=
  ((augPanelV (panelOf x.2.1)).view.slice (S147456x2x128.rowRect hg.axis (rowN i x.1 x.2.1 x.2.2))).set

/-- The elements that one row copied writes. -/
theorem mem_augSet (x : Fin 9 × Fin 24 × Fin 64) (z : S147456x3x2x128.Idx) :
    z ∈ augSet i x ↔ z 0 = rowN i x.1 x.2.1 x.2.2 ∧ z 1 = panelOf x.2.1 := mem_augRow (panelOf x.2.1) (rowN i x.1 x.2.1 x.2.2) z

/-- Every element this subcore owns is written by some row copied, and no other is. -/
theorem mem_augOwn (z : S147456x3x2x128.Idx) : z ∈ augOwn i ↔ ∃ x, z ∈ augSet i x := by
  have hw := wnum_lt i
  have hz : (z 0).val < 147456 := (z 0).isLt
  have hp : (z 1).val < 3 := (z 1).isLt
  unfold augOwn
  rw [Finset.mem_filter]
  constructor
  · rintro ⟨-, h⟩
    have hl := Perm.fwd_lt ⟨(z 0).val / 18432, by omega⟩ ⟨(z 0).val % 576, by omega⟩
    have hi := Perm.inv_fwd ⟨(z 0).val / 18432, by omega⟩ ⟨(z 0).val % 576, by omega⟩
    simp only at hl hi
    generalize hn : Perm.fwd ((z 0).val / 18432) ((z 0).val % 576) = n at hl hi
    refine ⟨⟨⟨n / 64, by omega⟩, ⟨3 * ((z 0).val / 18432) + (z 1).val, by omega⟩, ⟨n % 64, by omega⟩⟩, (mem_augSet _ z).mpr ⟨Fin.ext ?_, Fin.ext ?_⟩⟩
    · rw [rowN_val]
      show (z 0).val = (3 * ((z 0).val / 18432) + (z 1).val) / 3 * 18432 + wnum i * 576 + Perm.inv ((3 * ((z 0).val / 18432) + (z 1).val) / 3) (64 * (n / 64) + n % 64)
      rw [show (3 * ((z 0).val / 18432) + (z 1).val) / 3 = (z 0).val / 18432 by omega, show 64 * (n / 64) + n % 64 = n by omega, hi]
      omega
    · show (z 1).val = (3 * ((z 0).val / 18432) + (z 1).val) % 3
      omega
  · rintro ⟨x, hx⟩
    refine ⟨Finset.mem_univ _, ?_⟩
    have hl := Perm.inv_lt (augOf x.2.1) ⟨64 * x.1.val + x.2.2.val, by omega⟩
    have ha := (augOf x.2.1).isLt
    rw [((mem_augSet x z).mp hx).1, rowN_val]
    simp only at hl
    omega

/-- No element is written twice. -/
theorem augSet_unique (z : S147456x3x2x128.Idx) (x x' : Fin 9 × Fin 24 × Fin 64) (h : z ∈ augSet i x) (h' : z ∈ augSet i x') : x = x' := by
  obtain ⟨j, t, k⟩ := x
  obtain ⟨j', t', k'⟩ := x'
  have hw := wnum_lt i
  have h1 := (mem_augSet _ z).mp h
  have h2 := (mem_augSet _ z).mp h'
  have hr := congrArg Fin.val (h1.1.symm.trans h2.1)
  have hp := congrArg Fin.val (h1.2.symm.trans h2.2)
  have hl := Perm.inv_lt (augOf t) ⟨64 * j.val + k.val, by omega⟩
  have hl' := Perm.inv_lt (augOf t') ⟨64 * j'.val + k'.val, by omega⟩
  have hf := Perm.fwd_inv (augOf t) ⟨64 * j.val + k.val, by omega⟩
  have hf' := Perm.fwd_inv (augOf t') ⟨64 * j'.val + k'.val, by omega⟩
  simp only [rowN_val] at hr hp hl hl' hf hf'
  have ha : augOf t = augOf t' := Fin.ext (by omega)
  rw [← ha] at hr hl' hf'
  have hi : Perm.inv (augOf t).val (64 * j.val + k.val) = Perm.inv (augOf t).val (64 * j'.val + k'.val) := by omega
  rw [hi, hf'] at hf
  have ha' : t.val / 3 = t'.val / 3 := congrArg Fin.val ha
  have hp' : t.val % 3 = t'.val % 3 := hp
  refine Prod.ext (Fin.ext ?_) (Prod.ext (Fin.ext ?_) (Fin.ext ?_))
  · show j.val = j'.val; omega
  · show t.val = t'.val; omega
  · show k.val = k'.val; omega

/-- The subcore's elements of the result are the rows it copies. -/
theorem aug_split (f : AugBuf F d i) :
    (AugPts d i f : sProp 𝕄) = bigSep Finset.univ fun j : Fin 9 => bigSep Finset.univ fun t : Fin 24 => bigSep Finset.univ fun k : Fin 64 => AugRow d i (panelOf t) (rowN i j t k) f := by
  refine (pointsTo_cover (augV.view.loc (thr d i)) fullShare f (augOwn i) (augSet i) mem_augOwn augSet_unique).trans ?_
  rw [bigSep_univ_prod]
  refine bigSep_congr fun j _ => ?_
  rw [bigSep_univ_prod]
  rfl

/-! ## The index scratch as its lists, each lent to three panels -/

/-- The index scratch and what it holds. -/
abbrev IdxPts (d : Dev nD) (i : grid0.Coords) (fo : IdxBuf F d i) : sProp 𝕄 := idxV.view.loc (thr d i) ↦{fullShare} fo

/-- There are seventy-two lists. -/
theorem list_lt (x : Fin 9 × Fin 8) : 8 * x.1.val + x.2.val < 72 := by omega
/-- The elements of one list. -/
def listSet (x : Fin 9 × Fin 8) : Finset S72x64.Idx := (listV ⟨8 * x.1.val + x.2.val, list_lt x⟩).view.set

/-- An element of the index scratch is in a list when its row is the list's. -/
theorem mem_listSet (x : Fin 9 × Fin 8) (z : S72x64.Idx) : z ∈ listSet x ↔ (z 0).val = 8 * x.1.val + x.2.val := by
  constructor
  · intro h
    obtain ⟨y, -, rfl⟩ := Finset.mem_map.mp h
    exact congrArg (fun w : S72x64.Idx => (w 0).val) (listV_emb ⟨8 * x.1.val + x.2.val, by omega⟩ y)
  · intro h
    refine Finset.mem_map.mpr ⟨ix1 (n := 64) (z 1), Finset.mem_univ _, (listV_emb _ _).trans ?_⟩
    refine Eq.trans ?_ (eq_ix2 (n0 := 72) (n1 := 64) z).symm
    exact congrArg (fun r => ix2 (n0 := 72) (n1 := 64) r (z 1)) (Fin.ext h.symm)

/-- The index scratch is a share of a list for each copy of each chunk. -/
theorem idx_split (fo : IdxBuf F d i) :
    (IdxPts d i fo : sProp 𝕄) = bigSep Finset.univ fun j : Fin 9 => bigSep Finset.univ fun t : Fin 24 => ListPts d i (qList t) (listOf j t) fo := by
  refine (pointsTo_cover (idxV.view.loc (thr d i)) fullShare fo Finset.univ listSet (fun z => ⟨fun _ => ?_, fun _ => Finset.mem_univ _⟩) fun z x x' h h' => ?_).trans ?_
  · have hz : (z 0).val < 72 := (z 0).isLt
    exact ⟨⟨⟨(z 0).val / 8, by omega⟩, ⟨(z 0).val % 8, by omega⟩⟩, (mem_listSet _ z).mpr (show (z 0).val = 8 * ((z 0).val / 8) + (z 0).val % 8 by omega)⟩
  · have h1 := (mem_listSet x z).mp h
    have h2 := (mem_listSet x' z).mp h'
    exact Prod.ext (Fin.ext (by omega)) (Fin.ext (by omega))
  · rw [bigSep_univ_prod]
    refine bigSep_congr fun j _ => ?_
    refine (bigSep_congr fun a _ => Idealize.ShloMosaic.pointsTo_piecesOf (ℓ := idxV.view.loc (thr d i)) (listSet (j, a)) fo (show 0 < 3 by omega) fullShare).trans ?_
    refine (bigSep_univ_prod (fun x : Fin 8 × Fin 3 => (idxV.view.loc (thr d i) ↦[listSet (j, x.1)]{Idealize.ShloMosaic.pieceOf fullShare 3 (by omega) x.2} fo : sProp 𝕄))).symm.trans ?_
    refine Eq.trans (bigSep_congr fun x _ => ?_) (bigSep_univ_equiv (finProdFinEquiv : Fin 8 × Fin 3 ≃ Fin 24) (fun t => (ListPts d i (qList t) (listOf j t) fo : sProp 𝕄))).symm
    have ha : listOf j (finProdFinEquiv x) = ⟨8 * j.val + x.1.val, by omega⟩ := Fin.ext (show 8 * j.val + (x.2.val + 3 * x.1.val) / 3 = 8 * j.val + x.1.val by omega)
    have hp : panelOf (finProdFinEquiv x) = x.2 := Fin.ext (show (x.2.val + 3 * x.1.val) % 3 = x.2.val by omega)
    unfold qList
    rw [ha, hp]
    rfl

/-- What all copies of all chunks take is the subcore's part of the result and its index scratch. -/
theorem rows_split (f : AugBuf F d i) (fo : IdxBuf F d i) :
    (bigSep Finset.univ fun j => bigSep Finset.univ (Rows d i f fo j) : sProp 𝕄) = iprop(AugPts d i f ∗ IdxPts d i fo) := by
  rw [aug_split, idx_split, ← bigSep_sep']
  refine bigSep_congr fun j _ => ?_
  rw [← bigSep_sep']
  rfl

/-! ## The page of the index table -/

/-- What the index table may hold. -/
abbrev DstBuf (F : FTy → Type) (d : Dev nD) (i : grid0.Coords) : Type := Buf (Elt F) (dstV.view.loc (thr d i))
/-- A share of the index table. -/
abbrev DstPts (d : Dev nD) (i : grid0.Coords) (q : PosShare TreeShare) (fd : DstBuf F d i) : sProp 𝕄 := dstV.view.loc (thr d i) ↦{q} fd

/-- The index table: page `w`, list `8 j + a` names where chunk `j` of worker `w` goes in augmentation `a`. -/
def DstOK (fd : S32x72x64.Idx → Elt F .i32) : Prop := ∀ (w : Fin 32) (r : Fin 72) (k : Fin 64),
  BitVec.toNat (w := 32) (fd (ix3 (n0 := 32) (n1 := 72) (n2 := 64) w r k)) = Perm.target w.val (r.val % 8) (64 * (r.val / 8) + k.val)

/-- The subcore's page of the table. -/
def page (d : Dev nD) (i : grid0.Coords) (fd : DstBuf F d i) : IdxBuf F d i := (pageV i).view.read (Elt F) fd

/-- If the index table is right, so is each subcore's page of it. -/
theorem page_ok (fd : DstBuf F d i) (h : DstOK (F := F) fd) : ListOK d i (page d i fd) := fun j t k => by
  have h1 : page d i fd (ix2 (listOf j t) k) = fd (ix3 (n0 := 32) (n1 := 72) (n2 := 64) ⟨wnum i, wnum_lt i⟩ (listOf j t) k) :=
    congrArg fd (pageV_emb i (ix2 (listOf j t) k))
  rw [h1]
  refine (h _ _ _).trans ?_
  rw [rowN_val]
  show Perm.target (wnum i) ((8 * j.val + t.val / 3) % 8) (64 * ((8 * j.val + t.val / 3) / 8) + k.val) = (t.val / 3) * 18432 + wnum i * 576 + Perm.inv (t.val / 3) (64 * j.val + k.val)
  rw [show (8 * j.val + t.val / 3) % 8 = t.val / 3 by omega, show (8 * j.val + t.val / 3) / 8 = j.val by omega]
  rfl

/-- Nothing is counted on the semaphore of the page's copy. -/
abbrev Psem0 (d : Dev nD) (i : grid0.Coords) : sProp 𝕄 := semVal ((thr d i), .dma cc0_scoped0.sem) 0

/-- The subcore's scratch at rest. -/
def Scratch (d : Dev nD) (i : grid0.Coords) : sProp 𝕄 :=
  iprop((∃ f, IdxPts (F := F) d i f) ∗ (∃ f, RowPts (F := F) d i f) ∗ (Idle (F := F) d i 0 ∗ Idle (F := F) d i 1) ∗ Psem0 (F := F) d i ∗ bigSep Finset.univ (Isem0 (F := F) d i))

/-- The task leaves every row of the subcore's at its value. -/
theorem body_wp (q q' : PosShare TreeShare) (ft : TblBuf F d i) (fd : DstBuf F d i) (hfd : DstOK (F := F) fd) (f0 : AugBuf F d i) (g0 : InvBuf F d i) :
    iprop(Tbl d i q ft ∗ DstPts d i q' fd ∗ AugPts d i f0 ∗ InvPts d i g0 ∗ Scratch (F := F) d i ∗ Ow d i O W)
      ⊢ WP d i (body i) fun _ => iprop(Tbl d i q ft ∗ DstPts d i q' fd ∗ AugPts d i (augGoal ft) ∗ InvPts d i (invGoal (F := F)) ∗ Scratch (F := F) d i ∗ Ow d i O W) := by
  have hx : idxV.view.set = Finset.univ := View.set_whole _
  unfold body Scratch
  iintro ⟨HT, HD, HA, HI, ⟨⟨%fx, HX⟩, HR, HB, Hp, Hs⟩, HO⟩
  ihave HX' := (Entails.of_eq (show (IdxPts d i fx : sProp 𝕄) = (idxV.view.loc (thr d i) ↦[idxV.view.set]{fullShare} fx) by rw [hx])) $$ HX
  ihave HD' := (pointsTo_split_subset (ℓ := dstV.view.loc (thr d i)) (q := q') (f := fd) (S := Finset.univ) (Finset.subset_univ (pageV i).view.set)).1 $$ HD
  icases HD' with ⟨HD, HDr⟩
  iapply (copy_stage (F := F) (d := d) (i := i) (pageV i) idxV cc0_scoped0.sem (pageV_exact i) (Memref.isWhole_whole _).wordExact ⟨Or.inl rfl, trivial⟩ (by decide) q' fd fx _ _) $$ [HD HX' Hp]
  · isplitl [HD]; · iexact HD
    isplitl [HX']; · iexact HX'
    iexact Hp
  iintro Hf
  iapply (copied_stage (F := F) (d := d) (i := i) (O := O) (W := W) (pageV i) idxV cc0_scoped0.sem (pageV_exact i) (Memref.isWhole_whole _).wordExact _ _ _) $$ [Hf HO]
  · isplitl [Hf]; · iexact Hf
    iexact HO
  iintro ⟨⟨⟨HX, HD⟩, Hp⟩, HO⟩
  ihave HD' := (pointsTo_split_subset (ℓ := dstV.view.loc (thr d i)) (q := q') (f := fd) (S := Finset.univ) (Finset.subset_univ (pageV i).view.set)).2 $$ [HD HDr]
  · isplitl [HD]; · iexact HD
    iexact HDr
  have hw : (idxV.view.write (Elt F) fx ((pageV i).view.read (Elt F) fd) Finset.univ : IdxBuf F d i) = page d i fd := View.write_whole_univ _ _ _
  ihave HX' := (Entails.of_eq (show (idxV.view.loc (thr d i) ↦[idxV.view.set]{fullShare} (idxV.view.write (Elt F) fx ((pageV i).view.read (Elt F) fd) Finset.univ) : sProp 𝕄) = IdxPts d i (page d i fd) by rw [hx, hw])) $$ HX
  iapply (turns_stage g0 _ _) $$ [Hs HI HR HO]
  · isplitl [Hs]; · iexact Hs
    isplitr [HO]
    · isplitl [HI]; · iexact HI
      iexact HR
    · iexact HO
  iintro ⟨Hs, ⟨HI, HR⟩, HO⟩
  iapply (chunks_stage q ft f0 (page d i fd) (page_ok fd hfd) _ _) $$ [HB HT HA HX' HO]
  · isplitr [HO]
    · isplitr [HA HX']
      · isplitl [HB]; · iexact HB
        iexact HT
      · iapply (Entails.of_eq (rows_split f0 (page d i fd)).symm)
        isplitl [HA]; · iexact HA
        iexact HX'
    · iexact HO
  iintro ⟨⟨⟨HB, HT⟩, HA⟩, HO⟩
  ihave HA' := (Entails.of_eq (rows_split (augGoal ft) (page d i fd))) $$ HA
  icases HA' with ⟨HA, HX⟩
  unfold WP
  sl_step
  isplitl [HT]; · iexact HT
  isplitl [HD']; · iexact HD'
  isplitl [HA]; · iexact HA
  isplitl [HI]; · iexact HI
  isplitr [HO]
  · isplitl [HX]; · iexists _; iexact HX
    isplitl [HR]; · iexact HR
    isplitl [HB]; · iexact HB
    isplitl [Hp]; · iexact Hp
    iexact Hs
  · iexact HO

end Cert.Proof.Tile

end
-- ==== Proof.Own.lean ====
/- What a subcore owns when its task starts: the scratch its task runs on, and the rest. -/
module

public import proofs.«01_k».proof.Proof.Body

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

/-! ## The semaphores -/

/-- The thirteen semaphores of the task. -/
def semOf : Fin 13 → DmaSem sig
  | 0 => gsem 0 | 1 => gsem 1 | 2 => ssem 0 | 3 => ssem 1 | 4 => cc0_scoped0.sem
  | 5 => isem 0 | 6 => isem 1 | 7 => isem 2 | 8 => isem 3 | 9 => isem 4 | 10 => isem 5 | 11 => isem 6 | 12 => isem 7

/-- The thirteen semaphores are different ones. -/
theorem semOf_injective : Function.Injective semOf := by decide
/-- Each is a subcore's own. -/
theorem semOf_scoped : ∀ k : Fin 13, (SemLoc.dma (semOf k) : SemLoc sig).isScoped .scVector = true := by decide

/-- This subcore's thirteen semaphores. -/
def semCell : Fin 13 ↪ GSem nD τ sig := ⟨fun k => (thr d i, .dma (semOf k)), fun _ _ h => semOf_injective (SemLoc.dma.inj (congrArg Prod.snd h))⟩

/-- They are among those it owns. -/
theorem semCell_own : Finset.univ.map (semCell d i) ⊆ ownCells (thr d i) := fun g hg => by
  obtain ⟨k, -, rfl⟩ := Finset.mem_map.mp hg
  exact mem_ownCells.mpr ⟨rfl, semOf_scoped k⟩

/-- The semaphores that are not the task's. -/
def RestSems : sProp 𝕄 := bigSep (ownCells (thr d i) \ Finset.univ.map (semCell d i)) fun g => semVal g 0

/-- The semaphores a subcore owns are those its body uses and the rest. -/
theorem ownSems_eq :
    (ownSems0 (thr d i) : sProp 𝕄)
      = iprop((Gsem0 (F := F) d i 0 ∗ Gsem0 (F := F) d i 1 ∗ Ssem0 (F := F) d i 0 ∗ Ssem0 (F := F) d i 1 ∗ Psem0 (F := F) d i
          ∗ bigSep Finset.univ (Isem0 (F := F) d i)) ∗ RestSems (F := F) d i) := by
  unfold ownSems0 RestSems
  rw [bigSep_sdiff_split (semCell_own d i), bigSep_map, Idealize.ShloMosaic.bigSep_univ_succ, Idealize.ShloMosaic.bigSep_univ_succ, Idealize.ShloMosaic.bigSep_univ_succ,
    Idealize.ShloMosaic.bigSep_univ_succ, Idealize.ShloMosaic.bigSep_univ_succ]
  congr 6

/-! ## The buffers -/

/-- The four buffers of the task. -/
def scratchOf : Fin 4 → Ref sig .scVector
  | 0 => cc0_scratch0 | 1 => cc0_scratch1 | 2 => cc0_scratch2 | 3 => cc0_scratch3

/-- The four scratch buffers are different ones. -/
theorem scratchOf_injective : Function.Injective scratchOf := by decide

/-- This subcore's four scratch buffers. -/
def scratchRef : Fin 4 ↪ DevRef τ sig := ⟨fun k => (thr d i).2.devRef (scratchOf k), fun _ _ h => scratchOf_injective (Proc.devRef_injective _ h)⟩

/-- They are among those it owns. -/
theorem scratchRef_own : Finset.univ.map (scratchRef d i) ⊆ ownRefs (thr d i).2 := fun g hg => by
  obtain ⟨k, -, rfl⟩ := Finset.mem_map.mp hg
  match k with
  | 0 => exact SparseCore.Cfg.mem_ownRefs_of_owner (p := (thr d i).2) (b := (thr d i).2.devRef cc0_scratch0) rfl
  | 1 => exact SparseCore.Cfg.mem_ownRefs_of_owner (p := (thr d i).2) (b := (thr d i).2.devRef cc0_scratch1) rfl
  | 2 => exact SparseCore.Cfg.mem_ownRefs_of_owner (p := (thr d i).2) (b := (thr d i).2.devRef cc0_scratch2) rfl
  | 3 => exact SparseCore.Cfg.mem_ownRefs_of_owner (p := (thr d i).2) (b := (thr d i).2.devRef cc0_scratch3) rfl

/-- The buffers that are not the task's. -/
def RestBufs : sProp 𝕄 := bigSep (ownRefs (thr d i).2 \ Finset.univ.map (scratchRef d i)) fun b => iprop(∃ f, (((thr d i).1, b) : Loc nD τ sig) ↦{fullShare} f)

/-- Holding a row buffer is holding all of it. -/
theorem bufPts_whole (j : ℕ) : iprop(∃ f, BufPts (F := F) d i j f) = (iprop(∃ f, (bufV j).view.loc (thr d i) ↦{fullShare} f) : sProp 𝕄) := by
  have h : (bufV j).view.set = Finset.univ := by
    unfold bufV
    generalize j % 2 = r
    match r with
    | 0 => exact View.set_whole _
    | _ + 1 => exact View.set_whole _
  simp only [BufPts, h]

/-- The buffers a subcore owns are those its body uses and the rest. -/
theorem ownBufs_eq :
    (ownBufs (thr d i) : sProp 𝕄)
      = iprop(((∃ f, IdxPts (F := F) d i f) ∗ (∃ f, RowPts (F := F) d i f) ∗ (∃ f, BufPts (F := F) d i 0 f) ∗ ∃ f, BufPts (F := F) d i 1 f)
          ∗ RestBufs (F := F) d i) := by
  rw [bufPts_whole, bufPts_whole]
  unfold ownBufs RestBufs
  rw [bigSep_sdiff_split (scratchRef_own d i), bigSep_map, Idealize.ShloMosaic.bigSep_univ_succ, Idealize.ShloMosaic.bigSep_univ_succ, Idealize.ShloMosaic.bigSep_univ_succ,
    bigSep_univ_of_subsingleton (0 : Fin 1)]
  rfl

/-- A subcore's own semaphores and buffers are its task's scratch and the rest. -/
theorem own_scratch : iprop(ownBufs (thr d i) ∗ ownSems0 (thr d i)) ⊢ (iprop(Scratch (F := F) d i ∗ RestBufs (F := F) d i ∗ RestSems (F := F) d i) : sProp 𝕄) := by
  rw [ownSems_eq, ownBufs_eq]
  unfold Scratch Idle
  iintro ⟨⟨⟨HX, HR, H0, H1⟩, HB⟩, ⟨G0, G1, S0, S1, HP, HI⟩, HS⟩
  isplitr [HB HS]
  · isplitl [HX]; · iexact HX
    isplitl [HR]; · iexact HR
    isplitr [HP HI]
    · isplitl [H0 G0 S0]
      · isplitl [H0]; · iexact H0
        isplitl [G0]; · iexact G0
        iexact S0
      · isplitl [H1]; · iexact H1
        isplitl [G1]; · iexact G1
        iexact S1
    · isplitl [HP]; · iexact HP
      iexact HI
  · isplitl [HB]; · iexact HB
    iexact HS

/-- What the body used goes back to what the subcore owns. -/
theorem scratch_own : (iprop(Scratch (F := F) d i ∗ RestBufs (F := F) d i ∗ RestSems (F := F) d i) : sProp 𝕄) ⊢ iprop(ownBufs (thr d i) ∗ ownSems0 (thr d i)) := by
  rw [ownSems_eq, ownBufs_eq]
  unfold Scratch Idle
  iintro ⟨⟨HX, HR, ⟨⟨H0, G0, S0⟩, H1, G1, S1⟩, HP, HI⟩, HB, HS⟩
  isplitl [HX HR H0 H1 HB]
  · isplitr [HB]
    · isplitl [HX]; · iexact HX
      isplitl [HR]; · iexact HR
      isplitl [H0]; · iexact H0
      iexact H1
    · iexact HB
  · isplitr [HS]
    · isplitl [G0]; · iexact G0
      isplitl [G1]; · iexact G1
      isplitl [S0]; · iexact S0
      isplitl [S1]; · iexact S1
      isplitl [HP]; · iexact HP
      iexact HI
    · iexact HS

end Cert.Proof.Tile

end
-- ==== Proof.Parts.lean ====
/- The printed body's parts, applied to the subcore's operands. -/
module

public import proofs.«01_k».proof.Proof.Tile

@[expose] public section

noncomputable section

namespace Cert.Proof.Tile

open Cert.KernelIdeal
open Idealize.ShloMosaic Idealize.SL.Sem

variable {F : FTy → Type} [FloatOps F] [Facts] {α : Type} {β : Type 1}
open Facts₀ Facts

/-- A part of the body, over the operands it is printed with. -/
abbrev Part (F : FTy → Type) [FloatOps F] (i : grid0.Coords) (β : Type 1) : Type 1 :=
  ∀ (arg2 : Memref sig .scVector .hbm S18432x3x2x128 .f32) (harg2 : arg2.IsWhole) (arg3 : Memref sig .scVector .hbm S32x72x64 .i32) (harg3 : arg3.IsWhole) (arg4 : Memref sig .scVector .hbm S147456x3x2x128 .f32) (harg4 : arg4.IsWhole) (arg5 : Memref sig .scVector .hbm S8x576 .i32) (harg5 : arg5.IsWhole) (arg6 : Memref sig .scVector .vmem S72x64 .i32) (harg6 : arg6.IsWhole) (arg7 : Memref sig .scVector .vmem S576 .i32) (harg7 : arg7.IsWhole) (arg8 : Memref sig .scVector .vmem S64x3x2x128 .f32) (harg8 : arg8.IsWhole) (arg9 : Memref sig .scVector .vmem S64x3x2x128 .f32) (harg9 : arg9.IsWhole) (arg10 : DmaSems sig S_) (arg11 : DmaSems sig S_) (arg12 : DmaSems sig S_) (arg13 : DmaSems sig S_) (v3095_r0 : DmaSems sig S_) (v3743_r1 : DmaSems sig S_) (v3743_r2 : DmaSems sig S_) (v3743_r3 : DmaSems sig S_) (v3743_r4 : DmaSems sig S_) (v3743_r5 : DmaSems sig S_) (v3743_r6 : DmaSems sig S_) (v3743_r7 : DmaSems sig S_) (v3743_r8 : DmaSems sig S_), β

/-- The part on the subcore's own operands. -/
def run {i : grid0.Coords} (f : Part F i (PT F i PUnit)) : PT F i PUnit :=
  f tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8
/-- The same of a part that also takes its worker's first row. -/
def runOff {i : grid0.Coords} (f : Part F i (BitVec 32 → PT F i PUnit)) (v : BitVec 32) : PT F i PUnit :=
  f tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v

end Cert.Proof.Tile

end
-- ==== Proof.Parts1.lean ====
/- The printed body's parts 131 to 169, as steps of the loops. -/
module

public import proofs.«01_k».proof.Proof.Parts

@[expose] public section

noncomputable section

namespace Cert.Proof.Tile

open Cert.KernelIdeal
open Idealize.ShloMosaic Idealize.SL.Sem

variable {F : FTy → Type} [FloatOps F] [Facts] {α : Type} {β : Type 1}
open Facts₀ Facts

/-- Part 131 of the printed body, as its steps. -/
theorem part131_eq (i : grid0.Coords) : run (k0_part131 (F := F) i) = scatter 0 1 (scatter 0 2 (scatter 0 3 (.ret ⟨⟩))) := rfl
/-- Part 132 of the printed body, as its steps. -/
theorem part132_eq (i : grid0.Coords) : run (k0_part132 (F := F) i) = scatter 0 4 (scatter 0 5 (scatter 0 6 (.ret ⟨⟩))) := rfl
/-- Part 133 of the printed body, as its steps. -/
theorem part133_eq (i : grid0.Coords) : run (k0_part133 (F := F) i) = scatter 0 7 (scatter 0 8 (.ret ⟨⟩)) := rfl
/-- Part 134 of the printed body, as its steps. -/
theorem part134_eq (i : grid0.Coords) : run (k0_part134 (F := F) i) = scatter 0 9 (scatter 0 10 (scatter 0 11 (.ret ⟨⟩))) := rfl
/-- Part 135 of the printed body, as its steps. -/
theorem part135_eq (i : grid0.Coords) : run (k0_part135 (F := F) i) = scatter 0 12 (scatter 0 13 (scatter 0 14 (.ret ⟨⟩))) := rfl
/-- Part 136 of the printed body, as its steps. -/
theorem part136_eq (i : grid0.Coords) : run (k0_part136 (F := F) i) = scatter 0 15 (scatter 0 16 (scatter 0 17 (.ret ⟨⟩))) := rfl
/-- Part 137 of the printed body, as its steps. -/
theorem part137_eq (i : grid0.Coords) : run (k0_part137 (F := F) i) = scatter 0 18 (scatter 0 19 (scatter 0 20 (.ret ⟨⟩))) := rfl
/-- Part 138 of the printed body, as its steps. -/
theorem part138_eq (i : grid0.Coords) : runOff (k0_part138 (F := F) i) (Scalar.muli (wid i) 576#32) = scatter 0 21 (scatter 0 22 (scatter 0 23 (.ret ⟨⟩))) := rfl
/-- Part 139 of the printed body, as its steps. -/
theorem part139_eq (i : grid0.Coords) : run (k0_part139 (F := F) i) = fetch 1 (fetched 1 (scatter 1 0 (scatter 1 1 (.ret ⟨⟩)))) := rfl
/-- Part 140 of the printed body, as its steps. -/
theorem part140_eq (i : grid0.Coords) : run (k0_part140 (F := F) i) = scatter 1 2 (scatter 1 3 (scatter 1 4 (.ret ⟨⟩))) := rfl
/-- Part 141 of the printed body, as its steps. -/
theorem part141_eq (i : grid0.Coords) : run (k0_part141 (F := F) i) = scatter 1 5 (scatter 1 6 (.ret ⟨⟩)) := rfl
/-- Part 142 of the printed body, as its steps. -/
theorem part142_eq (i : grid0.Coords) : run (k0_part142 (F := F) i) = scatter 1 7 (scatter 1 8 (scatter 1 9 (.ret ⟨⟩))) := rfl
/-- Part 143 of the printed body, as its steps. -/
theorem part143_eq (i : grid0.Coords) : run (k0_part143 (F := F) i) = scatter 1 10 (scatter 1 11 (scatter 1 12 (.ret ⟨⟩))) := rfl
/-- Part 144 of the printed body, as its steps. -/
theorem part144_eq (i : grid0.Coords) : run (k0_part144 (F := F) i) = scatter 1 13 (scatter 1 14 (scatter 1 15 (.ret ⟨⟩))) := rfl
/-- Part 145 of the printed body, as its steps. -/
theorem part145_eq (i : grid0.Coords) : run (k0_part145 (F := F) i) = scatter 1 16 (scatter 1 17 (scatter 1 18 (.ret ⟨⟩))) := rfl
/-- Part 146 of the printed body, as its steps. -/
theorem part146_eq (i : grid0.Coords) : run (k0_part146 (F := F) i) = scatter 1 19 (scatter 1 20 (scatter 1 21 (.ret ⟨⟩))) := rfl
/-- Part 147 of the printed body, as its steps. -/
theorem part147_eq (i : grid0.Coords) : run (k0_part147 (F := F) i) = scatter 1 22 (scatter 1 23 (scattered 0 0 (.ret ⟨⟩))) := rfl
/-- Part 148 of the printed body, as its steps. -/
theorem part148_eq (i : grid0.Coords) : run (k0_part148 (F := F) i) = scattered 0 1 (scattered 0 2 (.ret ⟨⟩)) := rfl
/-- Part 149 of the printed body, as its steps. -/
theorem part149_eq (i : grid0.Coords) : run (k0_part149 (F := F) i) = scattered 0 3 (scattered 0 4 (scattered 0 5 (.ret ⟨⟩))) := rfl
/-- Part 150 of the printed body, as its steps. -/
theorem part150_eq (i : grid0.Coords) : run (k0_part150 (F := F) i) = scattered 0 6 (scattered 0 7 (scattered 0 8 (.ret ⟨⟩))) := rfl
/-- Part 151 of the printed body, as its steps. -/
theorem part151_eq (i : grid0.Coords) : run (k0_part151 (F := F) i) = scattered 0 9 (scattered 0 10 (scattered 0 11 (.ret ⟨⟩))) := rfl
/-- Part 152 of the printed body, as its steps. -/
theorem part152_eq (i : grid0.Coords) : run (k0_part152 (F := F) i) = scattered 0 12 (scattered 0 13 (scattered 0 14 (.ret ⟨⟩))) := rfl
/-- Part 153 of the printed body, as its steps. -/
theorem part153_eq (i : grid0.Coords) : run (k0_part153 (F := F) i) = scattered 0 15 (scattered 0 16 (scattered 0 17 (.ret ⟨⟩))) := rfl
/-- Part 154 of the printed body, as its steps. -/
theorem part154_eq (i : grid0.Coords) : run (k0_part154 (F := F) i) = scattered 0 18 (scattered 0 19 (scattered 0 20 (.ret ⟨⟩))) := rfl
/-- Part 155 of the printed body, as its steps. -/
theorem part155_eq (i : grid0.Coords) : run (k0_part155 (F := F) i) = scattered 0 21 (scattered 0 22 (.ret ⟨⟩)) := rfl
/-- Part 156 of the printed body, as its steps. -/
theorem part156_eq (i : grid0.Coords) : runOff (k0_part156 (F := F) i) (Scalar.muli (wid i) 576#32) = scattered 0 23 (fetch 2 (fetched 2 (scatter 2 0 (.ret ⟨⟩)))) := rfl
/-- Part 157 of the printed body, as its steps. -/
theorem part157_eq (i : grid0.Coords) : run (k0_part157 (F := F) i) = scatter 2 1 (scatter 2 2 (scatter 2 3 (.ret ⟨⟩))) := rfl
/-- Part 158 of the printed body, as its steps. -/
theorem part158_eq (i : grid0.Coords) : run (k0_part158 (F := F) i) = scatter 2 4 (scatter 2 5 (scatter 2 6 (.ret ⟨⟩))) := rfl
/-- Part 159 of the printed body, as its steps. -/
theorem part159_eq (i : grid0.Coords) : run (k0_part159 (F := F) i) = scatter 2 7 (scatter 2 8 (scatter 2 9 (.ret ⟨⟩))) := rfl
/-- Part 160 of the printed body, as its steps. -/
theorem part160_eq (i : grid0.Coords) : run (k0_part160 (F := F) i) = scatter 2 10 (scatter 2 11 (scatter 2 12 (.ret ⟨⟩))) := rfl
/-- Part 161 of the printed body, as its steps. -/
theorem part161_eq (i : grid0.Coords) : run (k0_part161 (F := F) i) = scatter 2 13 (scatter 2 14 (scatter 2 15 (.ret ⟨⟩))) := rfl
/-- Part 162 of the printed body, as its steps. -/
theorem part162_eq (i : grid0.Coords) : run (k0_part162 (F := F) i) = scatter 2 16 (scatter 2 17 (.ret ⟨⟩)) := rfl
/-- Part 163 of the printed body, as its steps. -/
theorem part163_eq (i : grid0.Coords) : run (k0_part163 (F := F) i) = scatter 2 18 (scatter 2 19 (scatter 2 20 (.ret ⟨⟩))) := rfl
/-- Part 164 of the printed body, as its steps. -/
theorem part164_eq (i : grid0.Coords) : run (k0_part164 (F := F) i) = scatter 2 21 (scatter 2 22 (scatter 2 23 (.ret ⟨⟩))) := rfl
/-- Part 165 of the printed body, as its steps. -/
theorem part165_eq (i : grid0.Coords) : run (k0_part165 (F := F) i) = scattered 1 0 (scattered 1 1 (scattered 1 2 (.ret ⟨⟩))) := rfl
/-- Part 166 of the printed body, as its steps. -/
theorem part166_eq (i : grid0.Coords) : run (k0_part166 (F := F) i) = scattered 1 3 (scattered 1 4 (scattered 1 5 (.ret ⟨⟩))) := rfl
/-- Part 167 of the printed body, as its steps. -/
theorem part167_eq (i : grid0.Coords) : run (k0_part167 (F := F) i) = scattered 1 6 (scattered 1 7 (scattered 1 8 (.ret ⟨⟩))) := rfl
/-- Part 168 of the printed body, as its steps. -/
theorem part168_eq (i : grid0.Coords) : run (k0_part168 (F := F) i) = scattered 1 9 (scattered 1 10 (scattered 1 11 (.ret ⟨⟩))) := rfl
/-- Part 169 of the printed body, as its steps. -/
theorem part169_eq (i : grid0.Coords) : run (k0_part169 (F := F) i) = scattered 1 12 (scattered 1 13 (.ret ⟨⟩)) := rfl

end Cert.Proof.Tile

end
-- ==== Proof.Parts2.lean ====
/- The printed body's parts 170 to 208, as steps of the loops. -/
module

public import proofs.«01_k».proof.Proof.Parts

@[expose] public section

noncomputable section

namespace Cert.Proof.Tile

open Cert.KernelIdeal
open Idealize.ShloMosaic Idealize.SL.Sem

variable {F : FTy → Type} [FloatOps F] [Facts] {α : Type} {β : Type 1}
open Facts₀ Facts

/-- Part 170 of the printed body, as its steps. -/
theorem part170_eq (i : grid0.Coords) : run (k0_part170 (F := F) i) = scattered 1 14 (scattered 1 15 (scattered 1 16 (.ret ⟨⟩))) := rfl
/-- Part 171 of the printed body, as its steps. -/
theorem part171_eq (i : grid0.Coords) : run (k0_part171 (F := F) i) = scattered 1 17 (scattered 1 18 (scattered 1 19 (.ret ⟨⟩))) := rfl
/-- Part 172 of the printed body, as its steps. -/
theorem part172_eq (i : grid0.Coords) : run (k0_part172 (F := F) i) = scattered 1 20 (scattered 1 21 (scattered 1 22 (.ret ⟨⟩))) := rfl
/-- Part 173 of the printed body, as its steps. -/
theorem part173_eq (i : grid0.Coords) : runOff (k0_part173 (F := F) i) (Scalar.muli (wid i) 576#32) = scattered 1 23 (fetch 3 (fetched 3 (scatter 3 0 (.ret ⟨⟩)))) := rfl
/-- Part 174 of the printed body, as its steps. -/
theorem part174_eq (i : grid0.Coords) : run (k0_part174 (F := F) i) = scatter 3 1 (scatter 3 2 (scatter 3 3 (.ret ⟨⟩))) := rfl
/-- Part 175 of the printed body, as its steps. -/
theorem part175_eq (i : grid0.Coords) : run (k0_part175 (F := F) i) = scatter 3 4 (scatter 3 5 (scatter 3 6 (.ret ⟨⟩))) := rfl
/-- Part 176 of the printed body, as its steps. -/
theorem part176_eq (i : grid0.Coords) : run (k0_part176 (F := F) i) = scatter 3 7 (scatter 3 8 (.ret ⟨⟩)) := rfl
/-- Part 177 of the printed body, as its steps. -/
theorem part177_eq (i : grid0.Coords) : run (k0_part177 (F := F) i) = scatter 3 9 (scatter 3 10 (scatter 3 11 (.ret ⟨⟩))) := rfl
/-- Part 178 of the printed body, as its steps. -/
theorem part178_eq (i : grid0.Coords) : run (k0_part178 (F := F) i) = scatter 3 12 (scatter 3 13 (scatter 3 14 (.ret ⟨⟩))) := rfl
/-- Part 179 of the printed body, as its steps. -/
theorem part179_eq (i : grid0.Coords) : run (k0_part179 (F := F) i) = scatter 3 15 (scatter 3 16 (scatter 3 17 (.ret ⟨⟩))) := rfl
/-- Part 180 of the printed body, as its steps. -/
theorem part180_eq (i : grid0.Coords) : run (k0_part180 (F := F) i) = scatter 3 18 (scatter 3 19 (scatter 3 20 (.ret ⟨⟩))) := rfl
/-- Part 181 of the printed body, as its steps. -/
theorem part181_eq (i : grid0.Coords) : run (k0_part181 (F := F) i) = scatter 3 21 (scatter 3 22 (scatter 3 23 (.ret ⟨⟩))) := rfl
/-- Part 182 of the printed body, as its steps. -/
theorem part182_eq (i : grid0.Coords) : run (k0_part182 (F := F) i) = scattered 2 0 (scattered 2 1 (scattered 2 2 (.ret ⟨⟩))) := rfl
/-- Part 183 of the printed body, as its steps. -/
theorem part183_eq (i : grid0.Coords) : run (k0_part183 (F := F) i) = scattered 2 3 (scattered 2 4 (.ret ⟨⟩)) := rfl
/-- Part 184 of the printed body, as its steps. -/
theorem part184_eq (i : grid0.Coords) : run (k0_part184 (F := F) i) = scattered 2 5 (scattered 2 6 (scattered 2 7 (.ret ⟨⟩))) := rfl
/-- Part 185 of the printed body, as its steps. -/
theorem part185_eq (i : grid0.Coords) : run (k0_part185 (F := F) i) = scattered 2 8 (scattered 2 9 (scattered 2 10 (.ret ⟨⟩))) := rfl
/-- Part 186 of the printed body, as its steps. -/
theorem part186_eq (i : grid0.Coords) : run (k0_part186 (F := F) i) = scattered 2 11 (scattered 2 12 (scattered 2 13 (.ret ⟨⟩))) := rfl
/-- Part 187 of the printed body, as its steps. -/
theorem part187_eq (i : grid0.Coords) : run (k0_part187 (F := F) i) = scattered 2 14 (scattered 2 15 (scattered 2 16 (.ret ⟨⟩))) := rfl
/-- Part 188 of the printed body, as its steps. -/
theorem part188_eq (i : grid0.Coords) : run (k0_part188 (F := F) i) = scattered 2 17 (scattered 2 18 (scattered 2 19 (.ret ⟨⟩))) := rfl
/-- Part 189 of the printed body, as its steps. -/
theorem part189_eq (i : grid0.Coords) : run (k0_part189 (F := F) i) = scattered 2 20 (scattered 2 21 (scattered 2 22 (.ret ⟨⟩))) := rfl
/-- Part 190 of the printed body, as its steps. -/
theorem part190_eq (i : grid0.Coords) : runOff (k0_part190 (F := F) i) (Scalar.muli (wid i) 576#32) = scattered 2 23 (fetch 4 (fetched 4 (scatter 4 0 (.ret ⟨⟩)))) := rfl
/-- Part 191 of the printed body, as its steps. -/
theorem part191_eq (i : grid0.Coords) : run (k0_part191 (F := F) i) = scatter 4 1 (scatter 4 2 (.ret ⟨⟩)) := rfl
/-- Part 192 of the printed body, as its steps. -/
theorem part192_eq (i : grid0.Coords) : run (k0_part192 (F := F) i) = scatter 4 3 (scatter 4 4 (scatter 4 5 (.ret ⟨⟩))) := rfl
/-- Part 193 of the printed body, as its steps. -/
theorem part193_eq (i : grid0.Coords) : run (k0_part193 (F := F) i) = scatter 4 6 (scatter 4 7 (scatter 4 8 (.ret ⟨⟩))) := rfl
/-- Part 194 of the printed body, as its steps. -/
theorem part194_eq (i : grid0.Coords) : run (k0_part194 (F := F) i) = scatter 4 9 (scatter 4 10 (scatter 4 11 (.ret ⟨⟩))) := rfl
/-- Part 195 of the printed body, as its steps. -/
theorem part195_eq (i : grid0.Coords) : run (k0_part195 (F := F) i) = scatter 4 12 (scatter 4 13 (scatter 4 14 (.ret ⟨⟩))) := rfl
/-- Part 196 of the printed body, as its steps. -/
theorem part196_eq (i : grid0.Coords) : run (k0_part196 (F := F) i) = scatter 4 15 (scatter 4 16 (scatter 4 17 (.ret ⟨⟩))) := rfl
/-- Part 197 of the printed body, as its steps. -/
theorem part197_eq (i : grid0.Coords) : run (k0_part197 (F := F) i) = scatter 4 18 (scatter 4 19 (scatter 4 20 (.ret ⟨⟩))) := rfl
/-- Part 198 of the printed body, as its steps. -/
theorem part198_eq (i : grid0.Coords) : run (k0_part198 (F := F) i) = scatter 4 21 (scatter 4 22 (.ret ⟨⟩)) := rfl
/-- Part 199 of the printed body, as its steps. -/
theorem part199_eq (i : grid0.Coords) : run (k0_part199 (F := F) i) = scatter 4 23 (scattered 3 0 (scattered 3 1 (.ret ⟨⟩))) := rfl
/-- Part 200 of the printed body, as its steps. -/
theorem part200_eq (i : grid0.Coords) : run (k0_part200 (F := F) i) = scattered 3 2 (scattered 3 3 (scattered 3 4 (.ret ⟨⟩))) := rfl
/-- Part 201 of the printed body, as its steps. -/
theorem part201_eq (i : grid0.Coords) : run (k0_part201 (F := F) i) = scattered 3 5 (scattered 3 6 (scattered 3 7 (.ret ⟨⟩))) := rfl
/-- Part 202 of the printed body, as its steps. -/
theorem part202_eq (i : grid0.Coords) : run (k0_part202 (F := F) i) = scattered 3 8 (scattered 3 9 (scattered 3 10 (.ret ⟨⟩))) := rfl
/-- Part 203 of the printed body, as its steps. -/
theorem part203_eq (i : grid0.Coords) : run (k0_part203 (F := F) i) = scattered 3 11 (scattered 3 12 (scattered 3 13 (.ret ⟨⟩))) := rfl
/-- Part 204 of the printed body, as its steps. -/
theorem part204_eq (i : grid0.Coords) : run (k0_part204 (F := F) i) = scattered 3 14 (scattered 3 15 (scattered 3 16 (.ret ⟨⟩))) := rfl
/-- Part 205 of the printed body, as its steps. -/
theorem part205_eq (i : grid0.Coords) : run (k0_part205 (F := F) i) = scattered 3 17 (scattered 3 18 (.ret ⟨⟩)) := rfl
/-- Part 206 of the printed body, as its steps. -/
theorem part206_eq (i : grid0.Coords) : run (k0_part206 (F := F) i) = scattered 3 19 (scattered 3 20 (scattered 3 21 (.ret ⟨⟩))) := rfl
/-- Part 207 of the printed body, as its steps. -/
theorem part207_eq (i : grid0.Coords) : runOff (k0_part207 (F := F) i) (Scalar.muli (wid i) 576#32) = scattered 3 22 (scattered 3 23 (fetch 5 (fetched 5 (.ret ⟨⟩)))) := rfl
/-- Part 208 of the printed body, as its steps. -/
theorem part208_eq (i : grid0.Coords) : run (k0_part208 (F := F) i) = scatter 5 0 (scatter 5 1 (scatter 5 2 (.ret ⟨⟩))) := rfl

end Cert.Proof.Tile

end
-- ==== Proof.Parts3.lean ====
/- The printed body's parts 209 to 247, as steps of the loops. -/
module

public import proofs.«01_k».proof.Proof.Parts

@[expose] public section

noncomputable section

namespace Cert.Proof.Tile

open Cert.KernelIdeal
open Idealize.ShloMosaic Idealize.SL.Sem

variable {F : FTy → Type} [FloatOps F] [Facts] {α : Type} {β : Type 1}
open Facts₀ Facts

/-- Part 209 of the printed body, as its steps. -/
theorem part209_eq (i : grid0.Coords) : run (k0_part209 (F := F) i) = scatter 5 3 (scatter 5 4 (scatter 5 5 (.ret ⟨⟩))) := rfl
/-- Part 210 of the printed body, as its steps. -/
theorem part210_eq (i : grid0.Coords) : run (k0_part210 (F := F) i) = scatter 5 6 (scatter 5 7 (scatter 5 8 (.ret ⟨⟩))) := rfl
/-- Part 211 of the printed body, as its steps. -/
theorem part211_eq (i : grid0.Coords) : run (k0_part211 (F := F) i) = scatter 5 9 (scatter 5 10 (scatter 5 11 (.ret ⟨⟩))) := rfl
/-- Part 212 of the printed body, as its steps. -/
theorem part212_eq (i : grid0.Coords) : run (k0_part212 (F := F) i) = scatter 5 12 (scatter 5 13 (.ret ⟨⟩)) := rfl
/-- Part 213 of the printed body, as its steps. -/
theorem part213_eq (i : grid0.Coords) : run (k0_part213 (F := F) i) = scatter 5 14 (scatter 5 15 (scatter 5 16 (.ret ⟨⟩))) := rfl
/-- Part 214 of the printed body, as its steps. -/
theorem part214_eq (i : grid0.Coords) : run (k0_part214 (F := F) i) = scatter 5 17 (scatter 5 18 (scatter 5 19 (.ret ⟨⟩))) := rfl
/-- Part 215 of the printed body, as its steps. -/
theorem part215_eq (i : grid0.Coords) : run (k0_part215 (F := F) i) = scatter 5 20 (scatter 5 21 (scatter 5 22 (.ret ⟨⟩))) := rfl
/-- Part 216 of the printed body, as its steps. -/
theorem part216_eq (i : grid0.Coords) : run (k0_part216 (F := F) i) = scatter 5 23 (scattered 4 0 (scattered 4 1 (.ret ⟨⟩))) := rfl
/-- Part 217 of the printed body, as its steps. -/
theorem part217_eq (i : grid0.Coords) : run (k0_part217 (F := F) i) = scattered 4 2 (scattered 4 3 (scattered 4 4 (.ret ⟨⟩))) := rfl
/-- Part 218 of the printed body, as its steps. -/
theorem part218_eq (i : grid0.Coords) : run (k0_part218 (F := F) i) = scattered 4 5 (scattered 4 6 (scattered 4 7 (.ret ⟨⟩))) := rfl
/-- Part 219 of the printed body, as its steps. -/
theorem part219_eq (i : grid0.Coords) : run (k0_part219 (F := F) i) = scattered 4 8 (scattered 4 9 (.ret ⟨⟩)) := rfl
/-- Part 220 of the printed body, as its steps. -/
theorem part220_eq (i : grid0.Coords) : run (k0_part220 (F := F) i) = scattered 4 10 (scattered 4 11 (scattered 4 12 (.ret ⟨⟩))) := rfl
/-- Part 221 of the printed body, as its steps. -/
theorem part221_eq (i : grid0.Coords) : run (k0_part221 (F := F) i) = scattered 4 13 (scattered 4 14 (scattered 4 15 (.ret ⟨⟩))) := rfl
/-- Part 222 of the printed body, as its steps. -/
theorem part222_eq (i : grid0.Coords) : run (k0_part222 (F := F) i) = scattered 4 16 (scattered 4 17 (scattered 4 18 (.ret ⟨⟩))) := rfl
/-- Part 223 of the printed body, as its steps. -/
theorem part223_eq (i : grid0.Coords) : run (k0_part223 (F := F) i) = scattered 4 19 (scattered 4 20 (scattered 4 21 (.ret ⟨⟩))) := rfl
/-- Part 224 of the printed body, as its steps. -/
theorem part224_eq (i : grid0.Coords) : runOff (k0_part224 (F := F) i) (Scalar.muli (wid i) 576#32) = scattered 4 22 (scattered 4 23 (fetch 6 (fetched 6 (.ret ⟨⟩)))) := rfl
/-- Part 225 of the printed body, as its steps. -/
theorem part225_eq (i : grid0.Coords) : run (k0_part225 (F := F) i) = scatter 6 0 (scatter 6 1 (scatter 6 2 (.ret ⟨⟩))) := rfl
/-- Part 226 of the printed body, as its steps. -/
theorem part226_eq (i : grid0.Coords) : run (k0_part226 (F := F) i) = scatter 6 3 (scatter 6 4 (.ret ⟨⟩)) := rfl
/-- Part 227 of the printed body, as its steps. -/
theorem part227_eq (i : grid0.Coords) : run (k0_part227 (F := F) i) = scatter 6 5 (scatter 6 6 (scatter 6 7 (.ret ⟨⟩))) := rfl
/-- Part 228 of the printed body, as its steps. -/
theorem part228_eq (i : grid0.Coords) : run (k0_part228 (F := F) i) = scatter 6 8 (scatter 6 9 (scatter 6 10 (.ret ⟨⟩))) := rfl
/-- Part 229 of the printed body, as its steps. -/
theorem part229_eq (i : grid0.Coords) : run (k0_part229 (F := F) i) = scatter 6 11 (scatter 6 12 (scatter 6 13 (.ret ⟨⟩))) := rfl
/-- Part 230 of the printed body, as its steps. -/
theorem part230_eq (i : grid0.Coords) : run (k0_part230 (F := F) i) = scatter 6 14 (scatter 6 15 (scatter 6 16 (.ret ⟨⟩))) := rfl
/-- Part 231 of the printed body, as its steps. -/
theorem part231_eq (i : grid0.Coords) : run (k0_part231 (F := F) i) = scatter 6 17 (scatter 6 18 (scatter 6 19 (.ret ⟨⟩))) := rfl
/-- Part 232 of the printed body, as its steps. -/
theorem part232_eq (i : grid0.Coords) : run (k0_part232 (F := F) i) = scatter 6 20 (scatter 6 21 (scatter 6 22 (.ret ⟨⟩))) := rfl
/-- Part 233 of the printed body, as its steps. -/
theorem part233_eq (i : grid0.Coords) : run (k0_part233 (F := F) i) = scatter 6 23 (scattered 5 0 (.ret ⟨⟩)) := rfl
/-- Part 234 of the printed body, as its steps. -/
theorem part234_eq (i : grid0.Coords) : run (k0_part234 (F := F) i) = scattered 5 1 (scattered 5 2 (scattered 5 3 (.ret ⟨⟩))) := rfl
/-- Part 235 of the printed body, as its steps. -/
theorem part235_eq (i : grid0.Coords) : run (k0_part235 (F := F) i) = scattered 5 4 (scattered 5 5 (scattered 5 6 (.ret ⟨⟩))) := rfl
/-- Part 236 of the printed body, as its steps. -/
theorem part236_eq (i : grid0.Coords) : run (k0_part236 (F := F) i) = scattered 5 7 (scattered 5 8 (scattered 5 9 (.ret ⟨⟩))) := rfl
/-- Part 237 of the printed body, as its steps. -/
theorem part237_eq (i : grid0.Coords) : run (k0_part237 (F := F) i) = scattered 5 10 (scattered 5 11 (scattered 5 12 (.ret ⟨⟩))) := rfl
/-- Part 238 of the printed body, as its steps. -/
theorem part238_eq (i : grid0.Coords) : run (k0_part238 (F := F) i) = scattered 5 13 (scattered 5 14 (scattered 5 15 (.ret ⟨⟩))) := rfl
/-- Part 239 of the printed body, as its steps. -/
theorem part239_eq (i : grid0.Coords) : run (k0_part239 (F := F) i) = scattered 5 16 (scattered 5 17 (scattered 5 18 (.ret ⟨⟩))) := rfl
/-- Part 240 of the printed body, as its steps. -/
theorem part240_eq (i : grid0.Coords) : run (k0_part240 (F := F) i) = scattered 5 19 (scattered 5 20 (.ret ⟨⟩)) := rfl
/-- Part 241 of the printed body, as its steps. -/
theorem part241_eq (i : grid0.Coords) : runOff (k0_part241 (F := F) i) (Scalar.muli (wid i) 576#32) = scattered 5 21 (scattered 5 22 (scattered 5 23 (fetch 7 (.ret ⟨⟩)))) := rfl
/-- Part 242 of the printed body, as its steps. -/
theorem part242_eq (i : grid0.Coords) : run (k0_part242 (F := F) i) = fetched 7 (scatter 7 0 (scatter 7 1 (.ret ⟨⟩))) := rfl
/-- Part 243 of the printed body, as its steps. -/
theorem part243_eq (i : grid0.Coords) : run (k0_part243 (F := F) i) = scatter 7 2 (scatter 7 3 (scatter 7 4 (.ret ⟨⟩))) := rfl
/-- Part 244 of the printed body, as its steps. -/
theorem part244_eq (i : grid0.Coords) : run (k0_part244 (F := F) i) = scatter 7 5 (scatter 7 6 (scatter 7 7 (.ret ⟨⟩))) := rfl
/-- Part 245 of the printed body, as its steps. -/
theorem part245_eq (i : grid0.Coords) : run (k0_part245 (F := F) i) = scatter 7 8 (scatter 7 9 (scatter 7 10 (.ret ⟨⟩))) := rfl
/-- Part 246 of the printed body, as its steps. -/
theorem part246_eq (i : grid0.Coords) : run (k0_part246 (F := F) i) = scatter 7 11 (scatter 7 12 (scatter 7 13 (.ret ⟨⟩))) := rfl
/-- Part 247 of the printed body, as its steps. -/
theorem part247_eq (i : grid0.Coords) : run (k0_part247 (F := F) i) = scatter 7 14 (scatter 7 15 (scatter 7 16 (.ret ⟨⟩))) := rfl

end Cert.Proof.Tile

end
-- ==== Proof.Parts4.lean ====
/- The printed body's parts 248 to 283, as steps of the loops. -/
module

public import proofs.«01_k».proof.Proof.Parts

@[expose] public section

noncomputable section

namespace Cert.Proof.Tile

open Cert.KernelIdeal
open Idealize.ShloMosaic Idealize.SL.Sem

variable {F : FTy → Type} [FloatOps F] [Facts] {α : Type} {β : Type 1}
open Facts₀ Facts

/-- Part 248 of the printed body, as its steps. -/
theorem part248_eq (i : grid0.Coords) : run (k0_part248 (F := F) i) = scatter 7 17 (scatter 7 18 (.ret ⟨⟩)) := rfl
/-- Part 249 of the printed body, as its steps. -/
theorem part249_eq (i : grid0.Coords) : run (k0_part249 (F := F) i) = scatter 7 19 (scatter 7 20 (scatter 7 21 (.ret ⟨⟩))) := rfl
/-- Part 250 of the printed body, as its steps. -/
theorem part250_eq (i : grid0.Coords) : run (k0_part250 (F := F) i) = scatter 7 22 (scatter 7 23 (scattered 6 0 (.ret ⟨⟩))) := rfl
/-- Part 251 of the printed body, as its steps. -/
theorem part251_eq (i : grid0.Coords) : run (k0_part251 (F := F) i) = scattered 6 1 (scattered 6 2 (scattered 6 3 (.ret ⟨⟩))) := rfl
/-- Part 252 of the printed body, as its steps. -/
theorem part252_eq (i : grid0.Coords) : run (k0_part252 (F := F) i) = scattered 6 4 (scattered 6 5 (scattered 6 6 (.ret ⟨⟩))) := rfl
/-- Part 253 of the printed body, as its steps. -/
theorem part253_eq (i : grid0.Coords) : run (k0_part253 (F := F) i) = scattered 6 7 (scattered 6 8 (scattered 6 9 (.ret ⟨⟩))) := rfl
/-- Part 254 of the printed body, as its steps. -/
theorem part254_eq (i : grid0.Coords) : run (k0_part254 (F := F) i) = scattered 6 10 (scattered 6 11 (scattered 6 12 (.ret ⟨⟩))) := rfl
/-- Part 255 of the printed body, as its steps. -/
theorem part255_eq (i : grid0.Coords) : run (k0_part255 (F := F) i) = scattered 6 13 (scattered 6 14 (.ret ⟨⟩)) := rfl
/-- Part 256 of the printed body, as its steps. -/
theorem part256_eq (i : grid0.Coords) : run (k0_part256 (F := F) i) = scattered 6 15 (scattered 6 16 (scattered 6 17 (.ret ⟨⟩))) := rfl
/-- Part 257 of the printed body, as its steps. -/
theorem part257_eq (i : grid0.Coords) : run (k0_part257 (F := F) i) = scattered 6 18 (scattered 6 19 (scattered 6 20 (.ret ⟨⟩))) := rfl
/-- Part 258 of the printed body, as its steps. -/
theorem part258_eq (i : grid0.Coords) : runOff (k0_part258 (F := F) i) (Scalar.muli (wid i) 576#32) = scattered 6 21 (scattered 6 22 (scattered 6 23 (.ret ⟨⟩))) := rfl
/-- Part 259 of the printed body, as its steps. -/
theorem part259_eq (i : grid0.Coords) : run (k0_part259 (F := F) i) = fetch 8 (fetched 8 (scatter 8 0 (scatter 8 1 (.ret ⟨⟩)))) := rfl
/-- Part 260 of the printed body, as its steps. -/
theorem part260_eq (i : grid0.Coords) : run (k0_part260 (F := F) i) = scatter 8 2 (scatter 8 3 (scatter 8 4 (.ret ⟨⟩))) := rfl
/-- Part 261 of the printed body, as its steps. -/
theorem part261_eq (i : grid0.Coords) : run (k0_part261 (F := F) i) = scatter 8 5 (scatter 8 6 (scatter 8 7 (.ret ⟨⟩))) := rfl
/-- Part 262 of the printed body, as its steps. -/
theorem part262_eq (i : grid0.Coords) : run (k0_part262 (F := F) i) = scatter 8 8 (scatter 8 9 (.ret ⟨⟩)) := rfl
/-- Part 263 of the printed body, as its steps. -/
theorem part263_eq (i : grid0.Coords) : run (k0_part263 (F := F) i) = scatter 8 10 (scatter 8 11 (scatter 8 12 (.ret ⟨⟩))) := rfl
/-- Part 264 of the printed body, as its steps. -/
theorem part264_eq (i : grid0.Coords) : run (k0_part264 (F := F) i) = scatter 8 13 (scatter 8 14 (scatter 8 15 (.ret ⟨⟩))) := rfl
/-- Part 265 of the printed body, as its steps. -/
theorem part265_eq (i : grid0.Coords) : run (k0_part265 (F := F) i) = scatter 8 16 (scatter 8 17 (scatter 8 18 (.ret ⟨⟩))) := rfl
/-- Part 266 of the printed body, as its steps. -/
theorem part266_eq (i : grid0.Coords) : run (k0_part266 (F := F) i) = scatter 8 19 (scatter 8 20 (scatter 8 21 (.ret ⟨⟩))) := rfl
/-- Part 267 of the printed body, as its steps. -/
theorem part267_eq (i : grid0.Coords) : run (k0_part267 (F := F) i) = scatter 8 22 (scatter 8 23 (scattered 7 0 (.ret ⟨⟩))) := rfl
/-- Part 268 of the printed body, as its steps. -/
theorem part268_eq (i : grid0.Coords) : run (k0_part268 (F := F) i) = scattered 7 1 (scattered 7 2 (scattered 7 3 (.ret ⟨⟩))) := rfl
/-- Part 269 of the printed body, as its steps. -/
theorem part269_eq (i : grid0.Coords) : run (k0_part269 (F := F) i) = scattered 7 4 (scattered 7 5 (.ret ⟨⟩)) := rfl
/-- Part 270 of the printed body, as its steps. -/
theorem part270_eq (i : grid0.Coords) : run (k0_part270 (F := F) i) = scattered 7 6 (scattered 7 7 (scattered 7 8 (.ret ⟨⟩))) := rfl
/-- Part 271 of the printed body, as its steps. -/
theorem part271_eq (i : grid0.Coords) : run (k0_part271 (F := F) i) = scattered 7 9 (scattered 7 10 (scattered 7 11 (.ret ⟨⟩))) := rfl
/-- Part 272 of the printed body, as its steps. -/
theorem part272_eq (i : grid0.Coords) : run (k0_part272 (F := F) i) = scattered 7 12 (scattered 7 13 (scattered 7 14 (.ret ⟨⟩))) := rfl
/-- Part 273 of the printed body, as its steps. -/
theorem part273_eq (i : grid0.Coords) : run (k0_part273 (F := F) i) = scattered 7 15 (scattered 7 16 (scattered 7 17 (.ret ⟨⟩))) := rfl
/-- Part 274 of the printed body, as its steps. -/
theorem part274_eq (i : grid0.Coords) : run (k0_part274 (F := F) i) = scattered 7 18 (scattered 7 19 (scattered 7 20 (.ret ⟨⟩))) := rfl
/-- Part 275 of the printed body, as its steps. -/
theorem part275_eq (i : grid0.Coords) : run (k0_part275 (F := F) i) = scattered 7 21 (scattered 7 22 (scattered 7 23 (.ret ⟨⟩))) := rfl
/-- Part 276 of the printed body, as its steps. -/
theorem part276_eq (i : grid0.Coords) : run (k0_part276 (F := F) i) = scattered 8 0 (scattered 8 1 (.ret ⟨⟩)) := rfl
/-- Part 277 of the printed body, as its steps. -/
theorem part277_eq (i : grid0.Coords) : run (k0_part277 (F := F) i) = scattered 8 2 (scattered 8 3 (scattered 8 4 (.ret ⟨⟩))) := rfl
/-- Part 278 of the printed body, as its steps. -/
theorem part278_eq (i : grid0.Coords) : run (k0_part278 (F := F) i) = scattered 8 5 (scattered 8 6 (scattered 8 7 (.ret ⟨⟩))) := rfl
/-- Part 279 of the printed body, as its steps. -/
theorem part279_eq (i : grid0.Coords) : run (k0_part279 (F := F) i) = scattered 8 8 (scattered 8 9 (scattered 8 10 (.ret ⟨⟩))) := rfl
/-- Part 280 of the printed body, as its steps. -/
theorem part280_eq (i : grid0.Coords) : run (k0_part280 (F := F) i) = scattered 8 11 (scattered 8 12 (scattered 8 13 (.ret ⟨⟩))) := rfl
/-- Part 281 of the printed body, as its steps. -/
theorem part281_eq (i : grid0.Coords) : run (k0_part281 (F := F) i) = scattered 8 14 (scattered 8 15 (scattered 8 16 (.ret ⟨⟩))) := rfl
/-- Part 282 of the printed body, as its steps. -/
theorem part282_eq (i : grid0.Coords) : run (k0_part282 (F := F) i) = scattered 8 17 (scattered 8 18 (scattered 8 19 (.ret ⟨⟩))) := rfl
/-- Part 283 of the printed body, as its steps. -/
theorem part283_eq (i : grid0.Coords) : run (k0_part283 (F := F) i) = scattered 8 20 (scattered 8 21 (.ret ⟨⟩)) := rfl

end Cert.Proof.Tile

end
-- ==== Proof.Chain.lean ====
/- The printed body is the loops of `Tile`. -/
module

public import proofs.«01_k».proof.Proof.Parts1
public import proofs.«01_k».proof.Proof.Parts2
public import proofs.«01_k».proof.Proof.Parts3
public import proofs.«01_k».proof.Proof.Parts4

@[expose] public section

noncomputable section

namespace Cert.Proof.Tile

open Cert.KernelIdeal
open Idealize.ShloMosaic Idealize.SL.Sem

variable {F : FTy → Type} [FloatOps F] [Facts] {α β : Type}
open Facts₀ Facts

/-- What follows a fetch is run after it. -/
theorem fetch_bind {i : grid0.Coords} (j : Fin 9) (k : PT F i α) (g : α → PT F i β) : fetch j k >>= g = fetch j (k >>= g) := rfl
/-- What follows the wait for a fetch is run after it. -/
theorem fetched_bind {i : grid0.Coords} (j : Fin 9) (k : PT F i α) (g : α → PT F i β) : fetched j k >>= g = fetched j (k >>= g) := rfl
/-- What follows a copy is run after it. -/
theorem scatter_bind {i : grid0.Coords} (j : Fin 9) (t : Fin 24) (k : PT F i α) (g : α → PT F i β) : scatter j t k >>= g = scatter j t (k >>= g) := rfl
/-- What follows the wait for a copy is run after it. -/
theorem scattered_bind {i : grid0.Coords} (j : Fin 9) (t : Fin 24) (k : PT F i α) (g : α → PT F i β) : scattered j t k >>= g = scattered j t (k >>= g) := rfl
/-- What follows nothing is run at once. -/
theorem ret_bind {i : grid0.Coords} (x : α) (g : α → PT F i β) : (.ret x : PT F i α) >>= g = g x := rfl

/-- The steps of parts 131 to 169. -/
def steps1 {i : grid0.Coords} (k : PT F i α) : PT F i α :=
      scatter 0 1 (scatter 0 2 (scatter 0 3 (scatter 0 4 (scatter 0 5 (scatter 0 6 (scatter 0 7 (scatter 0 8 (scatter 0 9 (scatter 0 10 (scatter 0 11 (scatter 0 12 (scatter 0 13 (scatter
      0 14 (scatter 0 15 (scatter 0 16 (scatter 0 17 (scatter 0 18 (scatter 0 19 (scatter 0 20 (scatter 0 21 (scatter 0 22 (scatter 0 23 (fetch 1 (fetched 1 (scatter 1 0 (scatter 1 1
      (scatter 1 2 (scatter 1 3 (scatter 1 4 (scatter 1 5 (scatter 1 6 (scatter 1 7 (scatter 1 8 (scatter 1 9 (scatter 1 10 (scatter 1 11 (scatter 1 12 (scatter 1 13 (scatter 1 14
      (scatter 1 15 (scatter 1 16 (scatter 1 17 (scatter 1 18 (scatter 1 19 (scatter 1 20 (scatter 1 21 (scatter 1 22 (scatter 1 23 (scattered 0 0 (scattered 0 1 (scattered 0 2
      (scattered 0 3 (scattered 0 4 (scattered 0 5 (scattered 0 6 (scattered 0 7 (scattered 0 8 (scattered 0 9 (scattered 0 10 (scattered 0 11 (scattered 0 12 (scattered 0 13 (scattered
      0 14 (scattered 0 15 (scattered 0 16 (scattered 0 17 (scattered 0 18 (scattered 0 19 (scattered 0 20 (scattered 0 21 (scattered 0 22 (scattered 0 23 (fetch 2 (fetched 2 (scatter 2
      0 (scatter 2 1 (scatter 2 2 (scatter 2 3 (scatter 2 4 (scatter 2 5 (scatter 2 6 (scatter 2 7 (scatter 2 8 (scatter 2 9 (scatter 2 10 (scatter 2 11 (scatter 2 12 (scatter 2 13
      (scatter 2 14 (scatter 2 15 (scatter 2 16 (scatter 2 17 (scatter 2 18 (scatter 2 19 (scatter 2 20 (scatter 2 21 (scatter 2 22 (scatter 2 23 (scattered 1 0 (scattered 1 1 (scattered
      1 2 (scattered 1 3 (scattered 1 4 (scattered 1 5 (scattered 1 6 (scattered 1 7 (scattered 1 8 (scattered 1 9 (scattered 1 10 (scattered 1 11 (scattered 1 12 (scattered 1 13
      k))))))))))))))))))))))))))))))))))))))))))))))))))))))))))))))))))))))))))))))))))))))))))))))))))))))))))))))))

/-- The parts of the program in the first run are its steps. -/
theorem chain1 (i : grid0.Coords) (v : BitVec 32) (hv : v = (Scalar.muli (wid i) 576#32)) (k : PT F i α) :
    (run (k0_part131 (F := F) i) >>= fun _ => run (k0_part132 (F := F) i) >>= fun _ => run (k0_part133 (F := F) i) >>= fun _ => run (k0_part134 (F := F) i) >>= fun _ => run (k0_part135
      (F := F) i) >>= fun _ => run (k0_part136 (F := F) i) >>= fun _ => run (k0_part137 (F := F) i) >>= fun _ => runOff (k0_part138 (F := F) i) v >>= fun _ => run (k0_part139 (F := F) i)
      >>= fun _ => run (k0_part140 (F := F) i) >>= fun _ => run (k0_part141 (F := F) i) >>= fun _ => run (k0_part142 (F := F) i) >>= fun _ => run (k0_part143 (F := F) i) >>= fun _ => run
      (k0_part144 (F := F) i) >>= fun _ => run (k0_part145 (F := F) i) >>= fun _ => run (k0_part146 (F := F) i) >>= fun _ => run (k0_part147 (F := F) i) >>= fun _ => run (k0_part148 (F
      := F) i) >>= fun _ => run (k0_part149 (F := F) i) >>= fun _ => run (k0_part150 (F := F) i) >>= fun _ => run (k0_part151 (F := F) i) >>= fun _ => run (k0_part152 (F := F) i) >>= fun
      _ => run (k0_part153 (F := F) i) >>= fun _ => run (k0_part154 (F := F) i) >>= fun _ => run (k0_part155 (F := F) i) >>= fun _ => runOff (k0_part156 (F := F) i) v >>= fun _ => run
      (k0_part157 (F := F) i) >>= fun _ => run (k0_part158 (F := F) i) >>= fun _ => run (k0_part159 (F := F) i) >>= fun _ => run (k0_part160 (F := F) i) >>= fun _ => run (k0_part161 (F
      := F) i) >>= fun _ => run (k0_part162 (F := F) i) >>= fun _ => run (k0_part163 (F := F) i) >>= fun _ => run (k0_part164 (F := F) i) >>= fun _ => run (k0_part165 (F := F) i) >>= fun
      _ => run (k0_part166 (F := F) i) >>= fun _ => run (k0_part167 (F := F) i) >>= fun _ => run (k0_part168 (F := F) i) >>= fun _ => run (k0_part169 (F := F) i) >>= fun _ => k) = steps1 k := by
  subst hv
  simp only [part131_eq, part132_eq, part133_eq, part134_eq, part135_eq, part136_eq, part137_eq, part138_eq, part139_eq, part140_eq, part141_eq, part142_eq, part143_eq, part144_eq, part145_eq,
      part146_eq, part147_eq, part148_eq, part149_eq, part150_eq, part151_eq, part152_eq, part153_eq, part154_eq, part155_eq, part156_eq, part157_eq, part158_eq, part159_eq, part160_eq,
      part161_eq, part162_eq, part163_eq, part164_eq, part165_eq, part166_eq, part167_eq, part168_eq, part169_eq,
      fetch_bind, fetched_bind, scatter_bind, scattered_bind, ret_bind, steps1]

/-- What follows the first run of steps is run after it. -/
theorem steps1_bind {i : grid0.Coords} (k : PT F i α) (g : α → PT F i β) : steps1 k >>= g = steps1 (k >>= g) := by
  simp only [steps1, fetch_bind, fetched_bind, scatter_bind, scattered_bind]

/-- The steps of parts 170 to 188. -/
def steps2 {i : grid0.Coords} (k : PT F i α) : PT F i α :=
      scattered 1 14 (scattered 1 15 (scattered 1 16 (scattered 1 17 (scattered 1 18 (scattered 1 19 (scattered 1 20 (scattered 1 21 (scattered 1 22 (scattered 1 23 (fetch 3 (fetched 3
      (scatter 3 0 (scatter 3 1 (scatter 3 2 (scatter 3 3 (scatter 3 4 (scatter 3 5 (scatter 3 6 (scatter 3 7 (scatter 3 8 (scatter 3 9 (scatter 3 10 (scatter 3 11 (scatter 3 12 (scatter
      3 13 (scatter 3 14 (scatter 3 15 (scatter 3 16 (scatter 3 17 (scatter 3 18 (scatter 3 19 (scatter 3 20 (scatter 3 21 (scatter 3 22 (scatter 3 23 (scattered 2 0 (scattered 2 1
      (scattered 2 2 (scattered 2 3 (scattered 2 4 (scattered 2 5 (scattered 2 6 (scattered 2 7 (scattered 2 8 (scattered 2 9 (scattered 2 10 (scattered 2 11 (scattered 2 12 (scattered 2
      13 (scattered 2 14 (scattered 2 15 (scattered 2 16 (scattered 2 17 (scattered 2 18 (scattered 2 19 k)))))))))))))))))))))))))))))))))))))))))))))))))))))))

/-- The parts of the program in the second run are its steps. -/
theorem chain2 (i : grid0.Coords) (v : BitVec 32) (hv : v = (Scalar.muli (wid i) 576#32)) (k : PT F i α) :
    (run (k0_part170 (F := F) i) >>= fun _ => run (k0_part171 (F := F) i) >>= fun _ => run (k0_part172 (F := F) i) >>= fun _ => runOff (k0_part173 (F := F) i) v >>= fun _ => run
      (k0_part174 (F := F) i) >>= fun _ => run (k0_part175 (F := F) i) >>= fun _ => run (k0_part176 (F := F) i) >>= fun _ => run (k0_part177 (F := F) i) >>= fun _ => run (k0_part178 (F
      := F) i) >>= fun _ => run (k0_part179 (F := F) i) >>= fun _ => run (k0_part180 (F := F) i) >>= fun _ => run (k0_part181 (F := F) i) >>= fun _ => run (k0_part182 (F := F) i) >>= fun
      _ => run (k0_part183 (F := F) i) >>= fun _ => run (k0_part184 (F := F) i) >>= fun _ => run (k0_part185 (F := F) i) >>= fun _ => run (k0_part186 (F := F) i) >>= fun _ => run
      (k0_part187 (F := F) i) >>= fun _ => run (k0_part188 (F := F) i) >>= fun _ => k) = steps2 k := by
  subst hv
  simp only [part170_eq, part171_eq, part172_eq, part173_eq, part174_eq, part175_eq, part176_eq, part177_eq, part178_eq, part179_eq, part180_eq, part181_eq, part182_eq, part183_eq, part184_eq,
      part185_eq, part186_eq, part187_eq, part188_eq,
      fetch_bind, fetched_bind, scatter_bind, scattered_bind, ret_bind, steps2]

/-- What follows the second run of steps is run after it. -/
theorem steps2_bind {i : grid0.Coords} (k : PT F i α) (g : α → PT F i β) : steps2 k >>= g = steps2 (k >>= g) := by
  simp only [steps2, fetch_bind, fetched_bind, scatter_bind, scattered_bind]

/-- The steps of parts 189 to 218. -/
def steps3 {i : grid0.Coords} (k : PT F i α) : PT F i α :=
      scattered 2 20 (scattered 2 21 (scattered 2 22 (scattered 2 23 (fetch 4 (fetched 4 (scatter 4 0 (scatter 4 1 (scatter 4 2 (scatter 4 3 (scatter 4 4 (scatter 4 5 (scatter 4 6
      (scatter 4 7 (scatter 4 8 (scatter 4 9 (scatter 4 10 (scatter 4 11 (scatter 4 12 (scatter 4 13 (scatter 4 14 (scatter 4 15 (scatter 4 16 (scatter 4 17 (scatter 4 18 (scatter 4 19
      (scatter 4 20 (scatter 4 21 (scatter 4 22 (scatter 4 23 (scattered 3 0 (scattered 3 1 (scattered 3 2 (scattered 3 3 (scattered 3 4 (scattered 3 5 (scattered 3 6 (scattered 3 7
      (scattered 3 8 (scattered 3 9 (scattered 3 10 (scattered 3 11 (scattered 3 12 (scattered 3 13 (scattered 3 14 (scattered 3 15 (scattered 3 16 (scattered 3 17 (scattered 3 18
      (scattered 3 19 (scattered 3 20 (scattered 3 21 (scattered 3 22 (scattered 3 23 (fetch 5 (fetched 5 (scatter 5 0 (scatter 5 1 (scatter 5 2 (scatter 5 3 (scatter 5 4 (scatter 5 5
      (scatter 5 6 (scatter 5 7 (scatter 5 8 (scatter 5 9 (scatter 5 10 (scatter 5 11 (scatter 5 12 (scatter 5 13 (scatter 5 14 (scatter 5 15 (scatter 5 16 (scatter 5 17 (scatter 5 18
      (scatter 5 19 (scatter 5 20 (scatter 5 21 (scatter 5 22 (scatter 5 23 (scattered 4 0 (scattered 4 1 (scattered 4 2 (scattered 4 3 (scattered 4 4 (scattered 4 5 (scattered 4 6
      (scattered 4 7 k)))))))))))))))))))))))))))))))))))))))))))))))))))))))))))))))))))))))))))))))))))))))

/-- The parts of the program in the third run are its steps. -/
theorem chain3 (i : grid0.Coords) (v : BitVec 32) (hv : v = (Scalar.muli (wid i) 576#32)) (k : PT F i α) :
    (run (k0_part189 (F := F) i) >>= fun _ => runOff (k0_part190 (F := F) i) v >>= fun _ => run (k0_part191 (F := F) i) >>= fun _ => run (k0_part192 (F := F) i) >>= fun _ => run
      (k0_part193 (F := F) i) >>= fun _ => run (k0_part194 (F := F) i) >>= fun _ => run (k0_part195 (F := F) i) >>= fun _ => run (k0_part196 (F := F) i) >>= fun _ => run (k0_part197 (F
      := F) i) >>= fun _ => run (k0_part198 (F := F) i) >>= fun _ => run (k0_part199 (F := F) i) >>= fun _ => run (k0_part200 (F := F) i) >>= fun _ => run (k0_part201 (F := F) i) >>= fun
      _ => run (k0_part202 (F := F) i) >>= fun _ => run (k0_part203 (F := F) i) >>= fun _ => run (k0_part204 (F := F) i) >>= fun _ => run (k0_part205 (F := F) i) >>= fun _ => run
      (k0_part206 (F := F) i) >>= fun _ => runOff (k0_part207 (F := F) i) v >>= fun _ => run (k0_part208 (F := F) i) >>= fun _ => run (k0_part209 (F := F) i) >>= fun _ => run (k0_part210
      (F := F) i) >>= fun _ => run (k0_part211 (F := F) i) >>= fun _ => run (k0_part212 (F := F) i) >>= fun _ => run (k0_part213 (F := F) i) >>= fun _ => run (k0_part214 (F := F) i) >>=
      fun _ => run (k0_part215 (F := F) i) >>= fun _ => run (k0_part216 (F := F) i) >>= fun _ => run (k0_part217 (F := F) i) >>= fun _ => run (k0_part218 (F := F) i) >>= fun _ => k) = steps3 k := by
  subst hv
  simp only [part189_eq, part190_eq, part191_eq, part192_eq, part193_eq, part194_eq, part195_eq, part196_eq, part197_eq, part198_eq, part199_eq, part200_eq, part201_eq, part202_eq, part203_eq,
      part204_eq, part205_eq, part206_eq, part207_eq, part208_eq, part209_eq, part210_eq, part211_eq, part212_eq, part213_eq, part214_eq, part215_eq, part216_eq, part217_eq, part218_eq,
      fetch_bind, fetched_bind, scatter_bind, scattered_bind, ret_bind, steps3]

/-- What follows the third run of steps is run after it. -/
theorem steps3_bind {i : grid0.Coords} (k : PT F i α) (g : α → PT F i β) : steps3 k >>= g = steps3 (k >>= g) := by
  simp only [steps3, fetch_bind, fetched_bind, scatter_bind, scattered_bind]

/-- The steps of parts 219 to 248. -/
def steps4 {i : grid0.Coords} (k : PT F i α) : PT F i α :=
      scattered 4 8 (scattered 4 9 (scattered 4 10 (scattered 4 11 (scattered 4 12 (scattered 4 13 (scattered 4 14 (scattered 4 15 (scattered 4 16 (scattered 4 17 (scattered 4 18
      (scattered 4 19 (scattered 4 20 (scattered 4 21 (scattered 4 22 (scattered 4 23 (fetch 6 (fetched 6 (scatter 6 0 (scatter 6 1 (scatter 6 2 (scatter 6 3 (scatter 6 4 (scatter 6 5
      (scatter 6 6 (scatter 6 7 (scatter 6 8 (scatter 6 9 (scatter 6 10 (scatter 6 11 (scatter 6 12 (scatter 6 13 (scatter 6 14 (scatter 6 15 (scatter 6 16 (scatter 6 17 (scatter 6 18
      (scatter 6 19 (scatter 6 20 (scatter 6 21 (scatter 6 22 (scatter 6 23 (scattered 5 0 (scattered 5 1 (scattered 5 2 (scattered 5 3 (scattered 5 4 (scattered 5 5 (scattered 5 6
      (scattered 5 7 (scattered 5 8 (scattered 5 9 (scattered 5 10 (scattered 5 11 (scattered 5 12 (scattered 5 13 (scattered 5 14 (scattered 5 15 (scattered 5 16 (scattered 5 17
      (scattered 5 18 (scattered 5 19 (scattered 5 20 (scattered 5 21 (scattered 5 22 (scattered 5 23 (fetch 7 (fetched 7 (scatter 7 0 (scatter 7 1 (scatter 7 2 (scatter 7 3 (scatter 7 4
      (scatter 7 5 (scatter 7 6 (scatter 7 7 (scatter 7 8 (scatter 7 9 (scatter 7 10 (scatter 7 11 (scatter 7 12 (scatter 7 13 (scatter 7 14 (scatter 7 15 (scatter 7 16 (scatter 7 17
      (scatter 7 18 k))))))))))))))))))))))))))))))))))))))))))))))))))))))))))))))))))))))))))))))))))))))

/-- The parts of the program in the fourth run are its steps. -/
theorem chain4 (i : grid0.Coords) (v : BitVec 32) (hv : v = (Scalar.muli (wid i) 576#32)) (k : PT F i α) :
    (run (k0_part219 (F := F) i) >>= fun _ => run (k0_part220 (F := F) i) >>= fun _ => run (k0_part221 (F := F) i) >>= fun _ => run (k0_part222 (F := F) i) >>= fun _ => run (k0_part223
      (F := F) i) >>= fun _ => runOff (k0_part224 (F := F) i) v >>= fun _ => run (k0_part225 (F := F) i) >>= fun _ => run (k0_part226 (F := F) i) >>= fun _ => run (k0_part227 (F := F) i)
      >>= fun _ => run (k0_part228 (F := F) i) >>= fun _ => run (k0_part229 (F := F) i) >>= fun _ => run (k0_part230 (F := F) i) >>= fun _ => run (k0_part231 (F := F) i) >>= fun _ => run
      (k0_part232 (F := F) i) >>= fun _ => run (k0_part233 (F := F) i) >>= fun _ => run (k0_part234 (F := F) i) >>= fun _ => run (k0_part235 (F := F) i) >>= fun _ => run (k0_part236 (F
      := F) i) >>= fun _ => run (k0_part237 (F := F) i) >>= fun _ => run (k0_part238 (F := F) i) >>= fun _ => run (k0_part239 (F := F) i) >>= fun _ => run (k0_part240 (F := F) i) >>= fun
      _ => runOff (k0_part241 (F := F) i) v >>= fun _ => run (k0_part242 (F := F) i) >>= fun _ => run (k0_part243 (F := F) i) >>= fun _ => run (k0_part244 (F := F) i) >>= fun _ => run
      (k0_part245 (F := F) i) >>= fun _ => run (k0_part246 (F := F) i) >>= fun _ => run (k0_part247 (F := F) i) >>= fun _ => run (k0_part248 (F := F) i) >>= fun _ => k) = steps4 k := by
  subst hv
  simp only [part219_eq, part220_eq, part221_eq, part222_eq, part223_eq, part224_eq, part225_eq, part226_eq, part227_eq, part228_eq, part229_eq, part230_eq, part231_eq, part232_eq, part233_eq,
      part234_eq, part235_eq, part236_eq, part237_eq, part238_eq, part239_eq, part240_eq, part241_eq, part242_eq, part243_eq, part244_eq, part245_eq, part246_eq, part247_eq, part248_eq,
      fetch_bind, fetched_bind, scatter_bind, scattered_bind, ret_bind, steps4]

/-- What follows the fourth run of steps is run after it. -/
theorem steps4_bind {i : grid0.Coords} (k : PT F i α) (g : α → PT F i β) : steps4 k >>= g = steps4 (k >>= g) := by
  simp only [steps4, fetch_bind, fetched_bind, scatter_bind, scattered_bind]

/-- The steps of parts 249 to 283. -/
def steps5 {i : grid0.Coords} (k : PT F i α) : PT F i α :=
      scatter 7 19 (scatter 7 20 (scatter 7 21 (scatter 7 22 (scatter 7 23 (scattered 6 0 (scattered 6 1 (scattered 6 2 (scattered 6 3 (scattered 6 4 (scattered 6 5 (scattered 6 6
      (scattered 6 7 (scattered 6 8 (scattered 6 9 (scattered 6 10 (scattered 6 11 (scattered 6 12 (scattered 6 13 (scattered 6 14 (scattered 6 15 (scattered 6 16 (scattered 6 17
      (scattered 6 18 (scattered 6 19 (scattered 6 20 (scattered 6 21 (scattered 6 22 (scattered 6 23 (fetch 8 (fetched 8 (scatter 8 0 (scatter 8 1 (scatter 8 2 (scatter 8 3 (scatter 8 4
      (scatter 8 5 (scatter 8 6 (scatter 8 7 (scatter 8 8 (scatter 8 9 (scatter 8 10 (scatter 8 11 (scatter 8 12 (scatter 8 13 (scatter 8 14 (scatter 8 15 (scatter 8 16 (scatter 8 17
      (scatter 8 18 (scatter 8 19 (scatter 8 20 (scatter 8 21 (scatter 8 22 (scatter 8 23 (scattered 7 0 (scattered 7 1 (scattered 7 2 (scattered 7 3 (scattered 7 4 (scattered 7 5
      (scattered 7 6 (scattered 7 7 (scattered 7 8 (scattered 7 9 (scattered 7 10 (scattered 7 11 (scattered 7 12 (scattered 7 13 (scattered 7 14 (scattered 7 15 (scattered 7 16
      (scattered 7 17 (scattered 7 18 (scattered 7 19 (scattered 7 20 (scattered 7 21 (scattered 7 22 (scattered 7 23 (scattered 8 0 (scattered 8 1 (scattered 8 2 (scattered 8 3
      (scattered 8 4 (scattered 8 5 (scattered 8 6 (scattered 8 7 (scattered 8 8 (scattered 8 9 (scattered 8 10 (scattered 8 11 (scattered 8 12 (scattered 8 13 (scattered 8 14 (scattered
      8 15 (scattered 8 16 (scattered 8 17 (scattered 8 18 (scattered 8 19 (scattered 8 20 (scattered 8 21
      k))))))))))))))))))))))))))))))))))))))))))))))))))))))))))))))))))))))))))))))))))))))))))))))))))))

/-- The parts of the program in the fifth run are its steps. -/
theorem chain5 (i : grid0.Coords) (v : BitVec 32) (hv : v = (Scalar.muli (wid i) 576#32)) (k : PT F i α) :
    (run (k0_part249 (F := F) i) >>= fun _ => run (k0_part250 (F := F) i) >>= fun _ => run (k0_part251 (F := F) i) >>= fun _ => run (k0_part252 (F := F) i) >>= fun _ => run (k0_part253
      (F := F) i) >>= fun _ => run (k0_part254 (F := F) i) >>= fun _ => run (k0_part255 (F := F) i) >>= fun _ => run (k0_part256 (F := F) i) >>= fun _ => run (k0_part257 (F := F) i) >>=
      fun _ => runOff (k0_part258 (F := F) i) v >>= fun _ => run (k0_part259 (F := F) i) >>= fun _ => run (k0_part260 (F := F) i) >>= fun _ => run (k0_part261 (F := F) i) >>= fun _ =>
      run (k0_part262 (F := F) i) >>= fun _ => run (k0_part263 (F := F) i) >>= fun _ => run (k0_part264 (F := F) i) >>= fun _ => run (k0_part265 (F := F) i) >>= fun _ => run (k0_part266
      (F := F) i) >>= fun _ => run (k0_part267 (F := F) i) >>= fun _ => run (k0_part268 (F := F) i) >>= fun _ => run (k0_part269 (F := F) i) >>= fun _ => run (k0_part270 (F := F) i) >>=
      fun _ => run (k0_part271 (F := F) i) >>= fun _ => run (k0_part272 (F := F) i) >>= fun _ => run (k0_part273 (F := F) i) >>= fun _ => run (k0_part274 (F := F) i) >>= fun _ => run
      (k0_part275 (F := F) i) >>= fun _ => run (k0_part276 (F := F) i) >>= fun _ => run (k0_part277 (F := F) i) >>= fun _ => run (k0_part278 (F := F) i) >>= fun _ => run (k0_part279 (F
      := F) i) >>= fun _ => run (k0_part280 (F := F) i) >>= fun _ => run (k0_part281 (F := F) i) >>= fun _ => run (k0_part282 (F := F) i) >>= fun _ => run (k0_part283 (F := F) i) >>= fun
      _ => k) = steps5 k := by
  subst hv
  simp only [part249_eq, part250_eq, part251_eq, part252_eq, part253_eq, part254_eq, part255_eq, part256_eq, part257_eq, part258_eq, part259_eq, part260_eq, part261_eq, part262_eq, part263_eq,
      part264_eq, part265_eq, part266_eq, part267_eq, part268_eq, part269_eq, part270_eq, part271_eq, part272_eq, part273_eq, part274_eq, part275_eq, part276_eq, part277_eq, part278_eq,
      part279_eq, part280_eq, part281_eq, part282_eq, part283_eq,
      fetch_bind, fetched_bind, scatter_bind, scattered_bind, ret_bind, steps5]

/-- What follows the fifth run of steps is run after it. -/
theorem steps5_bind {i : grid0.Coords} (k : PT F i α) (g : α → PT F i β) : steps5 k >>= g = steps5 (k >>= g) := by
  simp only [steps5, fetch_bind, fetched_bind, scatter_bind, scattered_bind]

/-- The five runs of steps, with what stands before and after them, are the nine chunks. -/
theorem steps_eq (i : grid0.Coords) (k : PT F i α) :
    fetch 0 (fetched 0 (scatter 0 0 (steps1 (steps2 (steps3 (steps4 (steps5 (scattered 8 22 (scattered 8 23 k))))))))) = chunks k := rfl

end Cert.Proof.Tile

end
-- ==== Proof.Link.lean ====
/- The printed body is the loops of `Tile`. -/
module

public import proofs.«01_k».proof.Proof.Chain

@[expose] public section

noncomputable section

namespace Cert.Proof.Tile

open Cert.KernelIdeal
open Idealize.ShloMosaic Idealize.SL.Sem

variable {F : FTy → Type} [FloatOps F] [Facts] {α β : Type}
open Facts₀ Facts

/-- What follows the stores of a row is run after them. -/
theorem each_put_bind {i : grid0.Coords} (a : Fin 8) (k : PT F i α) (g : α → PT F i β) :
    ∀ (n : ℕ) (f : Fin n → Fin 36), each n (fun t => put a (f t)) k >>= g = each n (fun t => put a (f t)) (k >>= g)
  | 0, _ => rfl
  | n + 1, f => by
    show Prog.op _ (fun _ => Prog.op _ fun _ => each n (fun t => put a (f t.succ)) k >>= g) = _
    rw [each_put_bind a k g n fun t => f t.succ]
    rfl

/-- What follows a row's turn is run after it. -/
theorem invRowIf_bind {i : grid0.Coords} (a : Fin 8) (k : PT F i α) (g : α → PT F i β) :
    invRowIf a k >>= g = invRowIf a (k >>= g) := by
  unfold invRowIf
  split
  · exact each_put_bind a _ g 36 id
  · rfl

set_option maxRecDepth 100000 in
/-- The body's first part is the page's copy and the first six turns. -/
theorem part129_eq (i : grid0.Coords) :
    k0_part129 (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 =
      .op (.enqueueDma (pageV i) (.here idxV) (.dma cc0_scoped0.sem) (pageV_exact i) (Memref.isWhole_whole _).wordExact ⟨Or.inl rfl, trivial⟩) fun _ =>
    .op (.waitDma2 cc0_scoped0.sem (pageV i) idxV (pageV_exact i) (Memref.isWhole_whole _).wordExact) fun _ =>
      each 6 (fun a => invRowIf (a.castLE (by omega))) (.ret ⟨wid i, 6#32⟩) := by
  unfold k0_part129
  rfl

set_option maxRecDepth 100000 in
/-- The body's second part goes on to the first copy of the first chunk. -/
theorem part130_eq (i : grid0.Coords) :
    k0_part130 (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 (wid i) 6#32 =
      invRowIf 6 (invRowIf 7 (fetch 0 (fetched 0 (scatter 0 0 (.ret (Scalar.muli (wid i) 576#32)))))) := by
  unfold k0_part130
  rfl

/-- What precedes the chunks: the worker's page fetched, its row of the inverses written. -/
def opening {i : grid0.Coords} (n : ℕ) (h : n ≤ 8) (k : PT F i α) : PT F i α :=
  .op (.enqueueDma (pageV i) (.here idxV) (.dma cc0_scoped0.sem) (pageV_exact i) (Memref.isWhole_whole _).wordExact ⟨Or.inl rfl, trivial⟩) fun _ =>
  .op (.waitDma2 cc0_scoped0.sem (pageV i) idxV (pageV_exact i) (Memref.isWhole_whole _).wordExact) fun _ =>
    each n (fun a => invRowIf (a.castLE h)) k

/-- What follows some turns is run after them. -/
theorem each_invRowIf_bind {i : grid0.Coords} (k : PT F i α) (g : α → PT F i β) :
    ∀ (n : ℕ) (f : Fin n → Fin 8), each n (fun t => invRowIf (f t)) k >>= g = each n (fun t => invRowIf (f t)) (k >>= g)
  | 0, _ => rfl
  | n + 1, f => by
    show invRowIf _ (each n (fun t => invRowIf (f t.succ)) k) >>= g = _
    rw [invRowIf_bind, each_invRowIf_bind k g n fun t => f t.succ]
    rfl

/-- What follows the opening is run after it. -/
theorem opening_bind {i : grid0.Coords} (n : ℕ) (h : n ≤ 8) (k : PT F i α) (g : α → PT F i β) : opening n h k >>= g = opening n h (k >>= g) :=
  congrArg (fun T => Prog.op _ fun _ => Prog.op _ fun _ => T) (each_invRowIf_bind k g n _)

/-- What follows the second part's steps is run after them. -/
theorem part130_bind {i : grid0.Coords} (k : PT F i α) (g : α → PT F i β) :
    invRowIf 6 (invRowIf 7 (fetch 0 (fetched 0 (scatter 0 0 k)))) >>= g = invRowIf 6 (invRowIf 7 (fetch 0 (fetched 0 (scatter 0 0 (k >>= g))))) := by
  rw [invRowIf_bind, invRowIf_bind, fetch_bind, fetched_bind, scatter_bind]

/-- The first of the three windows the body is cut into. -/
theorem part284_eq (i : grid0.Coords) :
    k0_part284 (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8
      = opening 8 (le_refl _) (fetch 0 (fetched 0 (scatter 0 0 (steps1 (steps2 (.ret (Scalar.muli (wid i) 576#32))))))) := by
  have hA := chain1 (F := F) i _ rfl _ |>.trans (congrArg steps1 (chain2 (F := F) i _ rfl (.ret (Scalar.muli (wid i) 576#32))))
  simp only [run, runOff] at hA
  unfold k0_part284
  refine (congrArg (· >>= _) (part129_eq i)).trans ((opening_bind 6 (by omega) _ _).trans (congrArg (opening 6 (by omega)) ?_))
  exact (congrArg (· >>= _) (part130_eq i)).trans ((part130_bind _ _).trans (congrArg (fun T => invRowIf 6 (invRowIf 7 (fetch 0 (fetched 0 (scatter 0 0 T))))) hA))

/-- The second. -/
theorem part285_eq (i : grid0.Coords) :
    k0_part285 (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 (Scalar.muli (wid i) 576#32) = steps3 (steps4 (.ret ⟨⟩)) := by
  have hB := chain3 (F := F) i _ rfl _ |>.trans (congrArg steps3 (chain4 (F := F) i _ rfl (.ret PUnit.unit)))
  simp only [run, runOff] at hB
  unfold k0_part285
  exact hB

/-- What follows the third and fourth runs of steps is run after them. -/
theorem steps34_bind {i : grid0.Coords} (k : PT F i α) (g : α → PT F i β) : steps3 (steps4 k) >>= g = steps3 (steps4 (k >>= g)) := by
  rw [steps3_bind, steps4_bind]

/-- What follows the first and second runs of steps is run after them. -/
theorem steps12_bind {i : grid0.Coords} (k : PT F i α) (g : α → PT F i β) :
    fetch 0 (fetched 0 (scatter 0 0 (steps1 (steps2 k)))) >>= g = fetch 0 (fetched 0 (scatter 0 0 (steps1 (steps2 (k >>= g))))) := by
  rw [fetch_bind, fetched_bind, scatter_bind, steps1_bind, steps2_bind]

/-- The opening with all its turns. -/
theorem opened {i : grid0.Coords} (k : PT F i α) : opening 8 (le_refl _) k = .op (.enqueueDma (pageV i) (.here idxV) (.dma cc0_scoped0.sem) (pageV_exact i) (Memref.isWhole_whole _).wordExact ⟨Or.inl rfl, trivial⟩) fun _ =>
    .op (.waitDma2 cc0_scoped0.sem (pageV i) idxV (pageV_exact i) (Memref.isWhole_whole _).wordExact) fun _ => each 8 (fun a => invRowIf a) k := rfl

/-- The third, which holds the first two. -/
theorem part286_eq (i : grid0.Coords) :
    k0_part286 (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 = opening 8 (le_refl _) (chunks (.ret ⟨⟩)) := by
  have hC := chain5 (F := F) i _ rfl (scattered 8 22 (scattered 8 23 (.ret PUnit.unit)))
  simp only [run, runOff] at hC
  unfold k0_part286
  refine (congrArg (· >>= _) (part284_eq i)).trans ((opening_bind 8 _ _ _).trans (congrArg (opening 8 (le_refl _)) ?_))
  refine (steps12_bind _ _).trans ?_
  refine Eq.trans (congrArg (fun T => fetch 0 (fetched 0 (scatter 0 0 (steps1 (steps2 T))))) ?_) (steps_eq i _)
  exact (congrArg (· >>= _) (part285_eq i)).trans ((steps34_bind _ _).trans (congrArg (fun T => steps3 (steps4 T)) hC))

/-- The printed body, on the subcore's operands, is `body`. -/
theorem body_eq (i : grid0.Coords) : cc0__body (F := F) i tblV (Memref.isWhole_whole _) dstV (Memref.isWhole_whole _) augV (Memref.isWhole_whole _) invV (Memref.isWhole_whole _) idxV (Memref.isWhole_whole _) rowV (Memref.isWhole_whole _) (Memref.whole cc0_scratch2) (Memref.isWhole_whole _) (Memref.whole cc0_scratch3) (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 = body i := by
  unfold cc0__body
  refine (congrArg (· >>= _) (part286_eq i)).trans ((opening_bind 8 _ _ _).trans ?_)
  exact congrArg (opening 8 (le_refl _)) (bind_pure _)

end Cert.Proof.Tile

end
-- ==== Proof.Table.lean ====
/- The kernel's index table, entry by entry: what it is to agree with the permutations' targets. -/
module

public import proofs.«01_k».proof.KernelIdeal
public import proofs.«01_k».proof.Proof.Perm
import all proofs.«01_k».proof.KernelIdeal.P02
import all proofs.«01_k».proof.KernelIdeal

@[expose] public section

noncomputable section

namespace Cert.Proof.Table

open Cert.KernelIdeal

/-- Entry `i` of the table, counted through: image `i / 4608`, chunk `i / 512 % 9`, augmentation `i / 64 % 8`, row `i % 64`. -/
def okAt (i : ℕ) : Bool := Nat.beq (lit0t i).toNat (Perm.target (i / 4608) (i / 64 % 8) (64 * (i / 512 % 9) + i % 64))

/-- The `2 ^ k` entries from `b` on. -/
def okPow (b : ℕ) : ℕ → Bool
  | 0 => okAt b
  | k + 1 => okPow b k && okPow (b + 2 ^ k) k

/-- If the `2 ^ k` entries from `b` on were found right, each of them is right. -/
theorem okAt_of_okPow (k : ℕ) : ∀ b, okPow b k = true → ∀ i, b ≤ i → i < b + 2 ^ k → okAt i = true := by
  induction k with
  | zero => intro b h i h1 h2; obtain rfl : i = b := by omega
            exact h
  | succ k ih =>
    intro b h i h1 h2
    obtain ⟨ha, hb⟩ := Bool.and_eq_true_iff.mp h
    rw [pow_succ] at h2
    by_cases hi : i < b + 2 ^ k
    · exact ih b ha i h1 hi
    · exact ih _ hb i (by omega) (by omega)

/-- Four runs of entries in turn, each of `2 ^ k` and each found right, are one of `2 ^ (k + 2)`. -/
theorem okPow_four {b k : ℕ} (h0 : okPow b k = true) (h1 : okPow (b + 2 ^ k) k = true)
    (h2 : okPow (b + 2 ^ (k + 1)) k = true) (h3 : okPow (b + 2 ^ (k + 1) + 2 ^ k) k = true) : okPow b (k + 2) = true :=
  Bool.and_eq_true_iff.mpr ⟨Bool.and_eq_true_iff.mpr ⟨h0, h1⟩, Bool.and_eq_true_iff.mpr ⟨h2, h3⟩⟩

end Cert.Proof.Table

end
-- ==== Proof.Table0.lean ====
/- Entries 0 to 16383 of the kernel's index table. -/
module

public import proofs.«01_k».proof.Proof.Table
import all proofs.«01_k».proof.KernelIdeal.P02
import all proofs.«01_k».proof.KernelIdeal

@[expose] public section

namespace Cert.Proof.Table

/-- The 1024 entries from 0 on agree with the permutations' targets. -/
theorem ok0_0 : okPow 0 10 = true := by decide +kernel
/-- The 1024 from 1024 on do. -/
theorem ok0_1 : okPow 1024 10 = true := by decide +kernel
/-- The 1024 from 2048 on do. -/
theorem ok0_2 : okPow 2048 10 = true := by decide +kernel
/-- The 1024 from 3072 on do. -/
theorem ok0_3 : okPow 3072 10 = true := by decide +kernel
/-- The 1024 from 4096 on do. -/
theorem ok0_4 : okPow 4096 10 = true := by decide +kernel
/-- The 1024 from 5120 on do. -/
theorem ok0_5 : okPow 5120 10 = true := by decide +kernel
/-- The 1024 from 6144 on do. -/
theorem ok0_6 : okPow 6144 10 = true := by decide +kernel
/-- The 1024 from 7168 on do. -/
theorem ok0_7 : okPow 7168 10 = true := by decide +kernel
/-- The 1024 from 8192 on do. -/
theorem ok0_8 : okPow 8192 10 = true := by decide +kernel
/-- The 1024 from 9216 on do. -/
theorem ok0_9 : okPow 9216 10 = true := by decide +kernel
/-- The 1024 from 10240 on do. -/
theorem ok0_10 : okPow 10240 10 = true := by decide +kernel
/-- The 1024 from 11264 on do. -/
theorem ok0_11 : okPow 11264 10 = true := by decide +kernel
/-- The 1024 from 12288 on do. -/
theorem ok0_12 : okPow 12288 10 = true := by decide +kernel
/-- The 1024 from 13312 on do. -/
theorem ok0_13 : okPow 13312 10 = true := by decide +kernel
/-- The 1024 from 14336 on do. -/
theorem ok0_14 : okPow 14336 10 = true := by decide +kernel
/-- The 1024 from 15360 on do. -/
theorem ok0_15 : okPow 15360 10 = true := by decide +kernel

/-- The 16384 entries from 0 on agree with the permutations' targets. -/
theorem ok0 : okPow 0 14 = true :=
  okPow_four (okPow_four ok0_0 ok0_1 ok0_2 ok0_3) (okPow_four ok0_4 ok0_5 ok0_6 ok0_7) (okPow_four ok0_8 ok0_9 ok0_10 ok0_11) (okPow_four ok0_12 ok0_13 ok0_14 ok0_15)

end Cert.Proof.Table

end
-- ==== Proof.Table1.lean ====
/- Entries 16384 to 32767 of the kernel's index table. -/
module

public import proofs.«01_k».proof.Proof.Table
import all proofs.«01_k».proof.KernelIdeal.P02
import all proofs.«01_k».proof.KernelIdeal

@[expose] public section

namespace Cert.Proof.Table

/-- The 1024 entries from 16384 on agree with the permutations' targets. -/
theorem ok1_0 : okPow 16384 10 = true := by decide +kernel
/-- The 1024 from 17408 on do. -/
theorem ok1_1 : okPow 17408 10 = true := by decide +kernel
/-- The 1024 from 18432 on do. -/
theorem ok1_2 : okPow 18432 10 = true := by decide +kernel
/-- The 1024 from 19456 on do. -/
theorem ok1_3 : okPow 19456 10 = true := by decide +kernel
/-- The 1024 from 20480 on do. -/
theorem ok1_4 : okPow 20480 10 = true := by decide +kernel
/-- The 1024 from 21504 on do. -/
theorem ok1_5 : okPow 21504 10 = true := by decide +kernel
/-- The 1024 from 22528 on do. -/
theorem ok1_6 : okPow 22528 10 = true := by decide +kernel
/-- The 1024 from 23552 on do. -/
theorem ok1_7 : okPow 23552 10 = true := by decide +kernel
/-- The 1024 from 24576 on do. -/
theorem ok1_8 : okPow 24576 10 = true := by decide +kernel
/-- The 1024 from 25600 on do. -/
theorem ok1_9 : okPow 25600 10 = true := by decide +kernel
/-- The 1024 from 26624 on do. -/
theorem ok1_10 : okPow 26624 10 = true := by decide +kernel
/-- The 1024 from 27648 on do. -/
theorem ok1_11 : okPow 27648 10 = true := by decide +kernel
/-- The 1024 from 28672 on do. -/
theorem ok1_12 : okPow 28672 10 = true := by decide +kernel
/-- The 1024 from 29696 on do. -/
theorem ok1_13 : okPow 29696 10 = true := by decide +kernel
/-- The 1024 from 30720 on do. -/
theorem ok1_14 : okPow 30720 10 = true := by decide +kernel
/-- The 1024 from 31744 on do. -/
theorem ok1_15 : okPow 31744 10 = true := by decide +kernel

/-- The 16384 entries from 16384 on agree with the permutations' targets. -/
theorem ok1 : okPow 16384 14 = true :=
  okPow_four (okPow_four ok1_0 ok1_1 ok1_2 ok1_3) (okPow_four ok1_4 ok1_5 ok1_6 ok1_7) (okPow_four ok1_8 ok1_9 ok1_10 ok1_11) (okPow_four ok1_12 ok1_13 ok1_14 ok1_15)

end Cert.Proof.Table

end
-- ==== Proof.Table2.lean ====
/- Entries 32768 to 49151 of the kernel's index table. -/
module

public import proofs.«01_k».proof.Proof.Table
import all proofs.«01_k».proof.KernelIdeal.P02
import all proofs.«01_k».proof.KernelIdeal

@[expose] public section

namespace Cert.Proof.Table

/-- The 1024 entries from 32768 on agree with the permutations' targets. -/
theorem ok2_0 : okPow 32768 10 = true := by decide +kernel
/-- The 1024 from 33792 on do. -/
theorem ok2_1 : okPow 33792 10 = true := by decide +kernel
/-- The 1024 from 34816 on do. -/
theorem ok2_2 : okPow 34816 10 = true := by decide +kernel
/-- The 1024 from 35840 on do. -/
theorem ok2_3 : okPow 35840 10 = true := by decide +kernel
/-- The 1024 from 36864 on do. -/
theorem ok2_4 : okPow 36864 10 = true := by decide +kernel
/-- The 1024 from 37888 on do. -/
theorem ok2_5 : okPow 37888 10 = true := by decide +kernel
/-- The 1024 from 38912 on do. -/
theorem ok2_6 : okPow 38912 10 = true := by decide +kernel
/-- The 1024 from 39936 on do. -/
theorem ok2_7 : okPow 39936 10 = true := by decide +kernel
/-- The 1024 from 40960 on do. -/
theorem ok2_8 : okPow 40960 10 = true := by decide +kernel
/-- The 1024 from 41984 on do. -/
theorem ok2_9 : okPow 41984 10 = true := by decide +kernel
/-- The 1024 from 43008 on do. -/
theorem ok2_10 : okPow 43008 10 = true := by decide +kernel
/-- The 1024 from 44032 on do. -/
theorem ok2_11 : okPow 44032 10 = true := by decide +kernel
/-- The 1024 from 45056 on do. -/
theorem ok2_12 : okPow 45056 10 = true := by decide +kernel
/-- The 1024 from 46080 on do. -/
theorem ok2_13 : okPow 46080 10 = true := by decide +kernel
/-- The 1024 from 47104 on do. -/
theorem ok2_14 : okPow 47104 10 = true := by decide +kernel
/-- The 1024 from 48128 on do. -/
theorem ok2_15 : okPow 48128 10 = true := by decide +kernel

/-- The 16384 entries from 32768 on agree with the permutations' targets. -/
theorem ok2 : okPow 32768 14 = true :=
  okPow_four (okPow_four ok2_0 ok2_1 ok2_2 ok2_3) (okPow_four ok2_4 ok2_5 ok2_6 ok2_7) (okPow_four ok2_8 ok2_9 ok2_10 ok2_11) (okPow_four ok2_12 ok2_13 ok2_14 ok2_15)

end Cert.Proof.Table

end
-- ==== Proof.Table3.lean ====
/- Entries 49152 to 65535 of the kernel's index table. -/
module

public import proofs.«01_k».proof.Proof.Table
import all proofs.«01_k».proof.KernelIdeal.P02
import all proofs.«01_k».proof.KernelIdeal

@[expose] public section

namespace Cert.Proof.Table

/-- The 1024 entries from 49152 on agree with the permutations' targets. -/
theorem ok3_0 : okPow 49152 10 = true := by decide +kernel
/-- The 1024 from 50176 on do. -/
theorem ok3_1 : okPow 50176 10 = true := by decide +kernel
/-- The 1024 from 51200 on do. -/
theorem ok3_2 : okPow 51200 10 = true := by decide +kernel
/-- The 1024 from 52224 on do. -/
theorem ok3_3 : okPow 52224 10 = true := by decide +kernel
/-- The 1024 from 53248 on do. -/
theorem ok3_4 : okPow 53248 10 = true := by decide +kernel
/-- The 1024 from 54272 on do. -/
theorem ok3_5 : okPow 54272 10 = true := by decide +kernel
/-- The 1024 from 55296 on do. -/
theorem ok3_6 : okPow 55296 10 = true := by decide +kernel
/-- The 1024 from 56320 on do. -/
theorem ok3_7 : okPow 56320 10 = true := by decide +kernel
/-- The 1024 from 57344 on do. -/
theorem ok3_8 : okPow 57344 10 = true := by decide +kernel
/-- The 1024 from 58368 on do. -/
theorem ok3_9 : okPow 58368 10 = true := by decide +kernel
/-- The 1024 from 59392 on do. -/
theorem ok3_10 : okPow 59392 10 = true := by decide +kernel
/-- The 1024 from 60416 on do. -/
theorem ok3_11 : okPow 60416 10 = true := by decide +kernel
/-- The 1024 from 61440 on do. -/
theorem ok3_12 : okPow 61440 10 = true := by decide +kernel
/-- The 1024 from 62464 on do. -/
theorem ok3_13 : okPow 62464 10 = true := by decide +kernel
/-- The 1024 from 63488 on do. -/
theorem ok3_14 : okPow 63488 10 = true := by decide +kernel
/-- The 1024 from 64512 on do. -/
theorem ok3_15 : okPow 64512 10 = true := by decide +kernel

/-- The 16384 entries from 49152 on agree with the permutations' targets. -/
theorem ok3 : okPow 49152 14 = true :=
  okPow_four (okPow_four ok3_0 ok3_1 ok3_2 ok3_3) (okPow_four ok3_4 ok3_5 ok3_6 ok3_7) (okPow_four ok3_8 ok3_9 ok3_10 ok3_11) (okPow_four ok3_12 ok3_13 ok3_14 ok3_15)

end Cert.Proof.Table

end
-- ==== Proof.Table4.lean ====
/- Entries 65536 to 81919 of the kernel's index table. -/
module

public import proofs.«01_k».proof.Proof.Table
import all proofs.«01_k».proof.KernelIdeal.P02
import all proofs.«01_k».proof.KernelIdeal

@[expose] public section

namespace Cert.Proof.Table

/-- The 1024 entries from 65536 on agree with the permutations' targets. -/
theorem ok4_0 : okPow 65536 10 = true := by decide +kernel
/-- The 1024 from 66560 on do. -/
theorem ok4_1 : okPow 66560 10 = true := by decide +kernel
/-- The 1024 from 67584 on do. -/
theorem ok4_2 : okPow 67584 10 = true := by decide +kernel
/-- The 1024 from 68608 on do. -/
theorem ok4_3 : okPow 68608 10 = true := by decide +kernel
/-- The 1024 from 69632 on do. -/
theorem ok4_4 : okPow 69632 10 = true := by decide +kernel
/-- The 1024 from 70656 on do. -/
theorem ok4_5 : okPow 70656 10 = true := by decide +kernel
/-- The 1024 from 71680 on do. -/
theorem ok4_6 : okPow 71680 10 = true := by decide +kernel
/-- The 1024 from 72704 on do. -/
theorem ok4_7 : okPow 72704 10 = true := by decide +kernel
/-- The 1024 from 73728 on do. -/
theorem ok4_8 : okPow 73728 10 = true := by decide +kernel
/-- The 1024 from 74752 on do. -/
theorem ok4_9 : okPow 74752 10 = true := by decide +kernel
/-- The 1024 from 75776 on do. -/
theorem ok4_10 : okPow 75776 10 = true := by decide +kernel
/-- The 1024 from 76800 on do. -/
theorem ok4_11 : okPow 76800 10 = true := by decide +kernel
/-- The 1024 from 77824 on do. -/
theorem ok4_12 : okPow 77824 10 = true := by decide +kernel
/-- The 1024 from 78848 on do. -/
theorem ok4_13 : okPow 78848 10 = true := by decide +kernel
/-- The 1024 from 79872 on do. -/
theorem ok4_14 : okPow 79872 10 = true := by decide +kernel
/-- The 1024 from 80896 on do. -/
theorem ok4_15 : okPow 80896 10 = true := by decide +kernel

/-- The 16384 entries from 65536 on agree with the permutations' targets. -/
theorem ok4 : okPow 65536 14 = true :=
  okPow_four (okPow_four ok4_0 ok4_1 ok4_2 ok4_3) (okPow_four ok4_4 ok4_5 ok4_6 ok4_7) (okPow_four ok4_8 ok4_9 ok4_10 ok4_11) (okPow_four ok4_12 ok4_13 ok4_14 ok4_15)

end Cert.Proof.Table

end
-- ==== Proof.Table5.lean ====
/- Entries 81920 to 98303 of the kernel's index table. -/
module

public import proofs.«01_k».proof.Proof.Table
import all proofs.«01_k».proof.KernelIdeal.P02
import all proofs.«01_k».proof.KernelIdeal

@[expose] public section

namespace Cert.Proof.Table

/-- The 1024 entries from 81920 on agree with the permutations' targets. -/
theorem ok5_0 : okPow 81920 10 = true := by decide +kernel
/-- The 1024 from 82944 on do. -/
theorem ok5_1 : okPow 82944 10 = true := by decide +kernel
/-- The 1024 from 83968 on do. -/
theorem ok5_2 : okPow 83968 10 = true := by decide +kernel
/-- The 1024 from 84992 on do. -/
theorem ok5_3 : okPow 84992 10 = true := by decide +kernel
/-- The 1024 from 86016 on do. -/
theorem ok5_4 : okPow 86016 10 = true := by decide +kernel
/-- The 1024 from 87040 on do. -/
theorem ok5_5 : okPow 87040 10 = true := by decide +kernel
/-- The 1024 from 88064 on do. -/
theorem ok5_6 : okPow 88064 10 = true := by decide +kernel
/-- The 1024 from 89088 on do. -/
theorem ok5_7 : okPow 89088 10 = true := by decide +kernel
/-- The 1024 from 90112 on do. -/
theorem ok5_8 : okPow 90112 10 = true := by decide +kernel
/-- The 1024 from 91136 on do. -/
theorem ok5_9 : okPow 91136 10 = true := by decide +kernel
/-- The 1024 from 92160 on do. -/
theorem ok5_10 : okPow 92160 10 = true := by decide +kernel
/-- The 1024 from 93184 on do. -/
theorem ok5_11 : okPow 93184 10 = true := by decide +kernel
/-- The 1024 from 94208 on do. -/
theorem ok5_12 : okPow 94208 10 = true := by decide +kernel
/-- The 1024 from 95232 on do. -/
theorem ok5_13 : okPow 95232 10 = true := by decide +kernel
/-- The 1024 from 96256 on do. -/
theorem ok5_14 : okPow 96256 10 = true := by decide +kernel
/-- The 1024 from 97280 on do. -/
theorem ok5_15 : okPow 97280 10 = true := by decide +kernel

/-- The 16384 entries from 81920 on agree with the permutations' targets. -/
theorem ok5 : okPow 81920 14 = true :=
  okPow_four (okPow_four ok5_0 ok5_1 ok5_2 ok5_3) (okPow_four ok5_4 ok5_5 ok5_6 ok5_7) (okPow_four ok5_8 ok5_9 ok5_10 ok5_11) (okPow_four ok5_12 ok5_13 ok5_14 ok5_15)

end Cert.Proof.Table

end
-- ==== Proof.Table6.lean ====
/- Entries 98304 to 114687 of the kernel's index table. -/
module

public import proofs.«01_k».proof.Proof.Table
import all proofs.«01_k».proof.KernelIdeal.P02
import all proofs.«01_k».proof.KernelIdeal

@[expose] public section

namespace Cert.Proof.Table

/-- The 1024 entries from 98304 on agree with the permutations' targets. -/
theorem ok6_0 : okPow 98304 10 = true := by decide +kernel
/-- The 1024 from 99328 on do. -/
theorem ok6_1 : okPow 99328 10 = true := by decide +kernel
/-- The 1024 from 100352 on do. -/
theorem ok6_2 : okPow 100352 10 = true := by decide +kernel
/-- The 1024 from 101376 on do. -/
theorem ok6_3 : okPow 101376 10 = true := by decide +kernel
/-- The 1024 from 102400 on do. -/
theorem ok6_4 : okPow 102400 10 = true := by decide +kernel
/-- The 1024 from 103424 on do. -/
theorem ok6_5 : okPow 103424 10 = true := by decide +kernel
/-- The 1024 from 104448 on do. -/
theorem ok6_6 : okPow 104448 10 = true := by decide +kernel
/-- The 1024 from 105472 on do. -/
theorem ok6_7 : okPow 105472 10 = true := by decide +kernel
/-- The 1024 from 106496 on do. -/
theorem ok6_8 : okPow 106496 10 = true := by decide +kernel
/-- The 1024 from 107520 on do. -/
theorem ok6_9 : okPow 107520 10 = true := by decide +kernel
/-- The 1024 from 108544 on do. -/
theorem ok6_10 : okPow 108544 10 = true := by decide +kernel
/-- The 1024 from 109568 on do. -/
theorem ok6_11 : okPow 109568 10 = true := by decide +kernel
/-- The 1024 from 110592 on do. -/
theorem ok6_12 : okPow 110592 10 = true := by decide +kernel
/-- The 1024 from 111616 on do. -/
theorem ok6_13 : okPow 111616 10 = true := by decide +kernel
/-- The 1024 from 112640 on do. -/
theorem ok6_14 : okPow 112640 10 = true := by decide +kernel
/-- The 1024 from 113664 on do. -/
theorem ok6_15 : okPow 113664 10 = true := by decide +kernel

/-- The 16384 entries from 98304 on agree with the permutations' targets. -/
theorem ok6 : okPow 98304 14 = true :=
  okPow_four (okPow_four ok6_0 ok6_1 ok6_2 ok6_3) (okPow_four ok6_4 ok6_5 ok6_6 ok6_7) (okPow_four ok6_8 ok6_9 ok6_10 ok6_11) (okPow_four ok6_12 ok6_13 ok6_14 ok6_15)

end Cert.Proof.Table

end
-- ==== Proof.Table7.lean ====
/- Entries 114688 to 131071 of the kernel's index table. -/
module

public import proofs.«01_k».proof.Proof.Table
import all proofs.«01_k».proof.KernelIdeal.P02
import all proofs.«01_k».proof.KernelIdeal

@[expose] public section

namespace Cert.Proof.Table

/-- The 1024 entries from 114688 on agree with the permutations' targets. -/
theorem ok7_0 : okPow 114688 10 = true := by decide +kernel
/-- The 1024 from 115712 on do. -/
theorem ok7_1 : okPow 115712 10 = true := by decide +kernel
/-- The 1024 from 116736 on do. -/
theorem ok7_2 : okPow 116736 10 = true := by decide +kernel
/-- The 1024 from 117760 on do. -/
theorem ok7_3 : okPow 117760 10 = true := by decide +kernel
/-- The 1024 from 118784 on do. -/
theorem ok7_4 : okPow 118784 10 = true := by decide +kernel
/-- The 1024 from 119808 on do. -/
theorem ok7_5 : okPow 119808 10 = true := by decide +kernel
/-- The 1024 from 120832 on do. -/
theorem ok7_6 : okPow 120832 10 = true := by decide +kernel
/-- The 1024 from 121856 on do. -/
theorem ok7_7 : okPow 121856 10 = true := by decide +kernel
/-- The 1024 from 122880 on do. -/
theorem ok7_8 : okPow 122880 10 = true := by decide +kernel
/-- The 1024 from 123904 on do. -/
theorem ok7_9 : okPow 123904 10 = true := by decide +kernel
/-- The 1024 from 124928 on do. -/
theorem ok7_10 : okPow 124928 10 = true := by decide +kernel
/-- The 1024 from 125952 on do. -/
theorem ok7_11 : okPow 125952 10 = true := by decide +kernel
/-- The 1024 from 126976 on do. -/
theorem ok7_12 : okPow 126976 10 = true := by decide +kernel
/-- The 1024 from 128000 on do. -/
theorem ok7_13 : okPow 128000 10 = true := by decide +kernel
/-- The 1024 from 129024 on do. -/
theorem ok7_14 : okPow 129024 10 = true := by decide +kernel
/-- The 1024 from 130048 on do. -/
theorem ok7_15 : okPow 130048 10 = true := by decide +kernel

/-- The 16384 entries from 114688 on agree with the permutations' targets. -/
theorem ok7 : okPow 114688 14 = true :=
  okPow_four (okPow_four ok7_0 ok7_1 ok7_2 ok7_3) (okPow_four ok7_4 ok7_5 ok7_6 ok7_7) (okPow_four ok7_8 ok7_9 ok7_10 ok7_11) (okPow_four ok7_12 ok7_13 ok7_14 ok7_15)

end Cert.Proof.Table

end
-- ==== Proof.Table8.lean ====
/- Entries 131072 to 147455 of the kernel's index table. -/
module

public import proofs.«01_k».proof.Proof.Table
import all proofs.«01_k».proof.KernelIdeal.P02
import all proofs.«01_k».proof.KernelIdeal

@[expose] public section

namespace Cert.Proof.Table

/-- The 1024 entries from 131072 on agree with the permutations' targets. -/
theorem ok8_0 : okPow 131072 10 = true := by decide +kernel
/-- The 1024 from 132096 on do. -/
theorem ok8_1 : okPow 132096 10 = true := by decide +kernel
/-- The 1024 from 133120 on do. -/
theorem ok8_2 : okPow 133120 10 = true := by decide +kernel
/-- The 1024 from 134144 on do. -/
theorem ok8_3 : okPow 134144 10 = true := by decide +kernel
/-- The 1024 from 135168 on do. -/
theorem ok8_4 : okPow 135168 10 = true := by decide +kernel
/-- The 1024 from 136192 on do. -/
theorem ok8_5 : okPow 136192 10 = true := by decide +kernel
/-- The 1024 from 137216 on do. -/
theorem ok8_6 : okPow 137216 10 = true := by decide +kernel
/-- The 1024 from 138240 on do. -/
theorem ok8_7 : okPow 138240 10 = true := by decide +kernel
/-- The 1024 from 139264 on do. -/
theorem ok8_8 : okPow 139264 10 = true := by decide +kernel
/-- The 1024 from 140288 on do. -/
theorem ok8_9 : okPow 140288 10 = true := by decide +kernel
/-- The 1024 from 141312 on do. -/
theorem ok8_10 : okPow 141312 10 = true := by decide +kernel
/-- The 1024 from 142336 on do. -/
theorem ok8_11 : okPow 142336 10 = true := by decide +kernel
/-- The 1024 from 143360 on do. -/
theorem ok8_12 : okPow 143360 10 = true := by decide +kernel
/-- The 1024 from 144384 on do. -/
theorem ok8_13 : okPow 144384 10 = true := by decide +kernel
/-- The 1024 from 145408 on do. -/
theorem ok8_14 : okPow 145408 10 = true := by decide +kernel
/-- The 1024 from 146432 on do. -/
theorem ok8_15 : okPow 146432 10 = true := by decide +kernel

/-- The 16384 entries from 131072 on agree with the permutations' targets. -/
theorem ok8 : okPow 131072 14 = true :=
  okPow_four (okPow_four ok8_0 ok8_1 ok8_2 ok8_3) (okPow_four ok8_4 ok8_5 ok8_6 ok8_7) (okPow_four ok8_8 ok8_9 ok8_10 ok8_11) (okPow_four ok8_12 ok8_13 ok8_14 ok8_15)

end Cert.Proof.Table

end
-- ==== Proof.Image.lean ====
/- The kernel's index table is the one its scatters are to follow. -/
module

public import proofs.«01_k».proof.Proof.Body
public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7
public import proofs.«01_k».proof.Proof.Table8

@[expose] public section

noncomputable section

namespace Cert.Proof.Table

open Cert.KernelIdeal
open Idealize.ShloMosaic Idealize.ShloMosaic.ValueIdx

/-- Every entry is the one wanted. -/
theorem okAt_all (i : ℕ) (h : i < 147456) : okAt i = true := by
  rcases Nat.lt_or_ge i 16384 with h1 | h1; · exact okAt_of_okPow 14 _ ok0 i (Nat.zero_le _) h1
  rcases Nat.lt_or_ge i 32768 with h2 | h2; · exact okAt_of_okPow 14 _ ok1 i h1 h2
  rcases Nat.lt_or_ge i 49152 with h3 | h3; · exact okAt_of_okPow 14 _ ok2 i h2 h3
  rcases Nat.lt_or_ge i 65536 with h4 | h4; · exact okAt_of_okPow 14 _ ok3 i h3 h4
  rcases Nat.lt_or_ge i 81920 with h5 | h5; · exact okAt_of_okPow 14 _ ok4 i h4 h5
  rcases Nat.lt_or_ge i 98304 with h6 | h6; · exact okAt_of_okPow 14 _ ok5 i h5 h6
  rcases Nat.lt_or_ge i 114688 with h7 | h7; · exact okAt_of_okPow 14 _ ok6 i h6 h7
  rcases Nat.lt_or_ge i 131072 with h8 | h8; · exact okAt_of_okPow 14 _ ok7 i h7 h8
  exact okAt_of_okPow 14 _ ok8 i h8 h

/-- The entry for row `k` of list `r` of page `w` is that row's target. -/
theorem entry (x : Fin 147456) (w : ℕ) (r : ℕ) (k : ℕ) (hr : r < 72) (hk : k < 64) (hx : x.val = w * 4608 + r * 64 + k) :
    (lit0 x).toNat = Perm.target w (r % 8) (64 * (r / 8) + k) := by
  have h := Nat.eq_of_beq_eq_true (okAt_all x.val x.isLt)
  rw [show x.val / 4608 = w by omega, show x.val / 64 % 8 = r % 8 by omega, show x.val / 512 % 9 = r / 8 by omega, show x.val % 64 = k by omega] at h
  exact h

/-- The table as @main lays it out: page `w`, list `8 j + a` names the targets of chunk `j` in augmentation `a`. -/
theorem table_ok {F : FTy → Type} [FloatOps F] : Tile.DstOK (F := F) fun i => lit0 (S32x72x64.rowMajor i) := fun w r k =>
  entry _ w.val r.val k.val r.isLt k.isLt (by
    refine (Shape.rowMajor_val_three (d := S32x72x64.size) _).trans ?_
    show (w.val * 72 + r.val) * 64 + k.val = _
    omega)

end Cert.Proof.Table

end
-- ==== Proof.Launch.lean ====
/- The launch: the tables handed to the subcores, their rows handed back, and what every array holds at the end. -/
module

public import proofs.«01_k».proof.Defs
public import proofs.«01_k».proof.Proof.Own
public import proofs.«01_k».proof.Proof.Link
public import proofs.«01_k».proof.Proof.Image
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.Proof.Launch

open Cert.KernelIdeal Cert.KernelIdeal.Gen
open Cert.Proof.Tile
open Idealize.ShloMosaic Idealize.ShloMosaic.ValueIdx
open Idealize.ShloMosaic.SparseCore (S V)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

/-! ## The program as the launch theorem sees it -/

/-- The labels of the launch's program. -/
abbrev ΛP : Labels := Pipeline.Sig Λ₀ (Fin 0) fun p => (pcfgs (F := F) p).Adm
/-- The launch. -/
abbrev K : SparseCore.Cfg τ sig (ΛP (F := F)) 1 := sc (F := F)
/-- The launch's definitions. -/
abbrev D [FloatOps F] : Defs nD τ sig (Elt F) (ΛP (F := F)) := Pipeline.defs pcfgs defs₀
/-- No loop needs a measure. -/
abbrev 𝒱 : Variants := 𝒱₀.lift
/-- The one measure. -/
abbrev v₀ : 𝒱.V := Sum.inl none

/-- The launch is laid out as it must be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- Where the hand-shakes' ghost state lies. -/
abbrev EH : Emb UH (MT nD τ sig (HIx 1) (Elt F) ℕ UU ℕ) := embL

variable (m : (ℓ : Loc nD τ sig) → Buf (Elt F) ℓ) (ρ : Dev nD → PrngReg)
variable [FloatOps F]

/-! ## The arrays of @main -/

/-- Where the input lies. -/
abbrev aLoc (d : Dev nD) : Loc nD τ sig := (SparseCore.T d).loc main_arg0
/-- Where the index table lies. -/
abbrev cLoc (d : Dev nD) : Loc nD τ sig := (SparseCore.T d).loc main_c
/-- Where the input's rows lie. -/
abbrev tLoc (d : Dev nD) : Loc nD τ sig := (SparseCore.T d).loc main_v0
/-- Where the views' rows lie. -/
abbrev oLoc (d : Dev nD) : Loc nD τ sig := (SparseCore.T d).loc main_v1_0
/-- Where the inverses lie. -/
abbrev nLoc (d : Dev nD) : Loc nD τ sig := (SparseCore.T d).loc main_v1_1
/-- Where the views lie. -/
abbrev rLoc (d : Dev nD) : Loc nD τ sig := (SparseCore.T d).loc main_v2
/-- Where the views' numbers lie. -/
abbrev kLoc (d : Dev nD) : Loc nD τ sig := (SparseCore.T d).loc main_v3

/-- The input. -/
abbrev a' : DevRef τ sig := Proc.devRef .tc (main_arg0 : Ref sig .tc)
/-- The index table. -/
abbrev c' : DevRef τ sig := Proc.devRef .tc (main_c : Ref sig .tc)
/-- The input's rows. -/
abbrev t' : DevRef τ sig := Proc.devRef .tc (main_v0 : Ref sig .tc)
/-- The views' rows. -/
abbrev o' : DevRef τ sig := Proc.devRef .tc (main_v1_0 : Ref sig .tc)
/-- The inverses. -/
abbrev n' : DevRef τ sig := Proc.devRef .tc (main_v1_1 : Ref sig .tc)
/-- The views. -/
abbrev r' : DevRef τ sig := Proc.devRef .tc (main_v2 : Ref sig .tc)
/-- The views' numbers. -/
abbrev k' : DevRef τ sig := Proc.devRef .tc (main_v3 : Ref sig .tc)

/-- The index table of the program text. -/
def table : S32x72x64.Idx → Elt F .i32 := fun x => lit0 (S32x72x64.rowMajor x)

/-- The index table is laid out. -/
abbrev opTable : HloOp τ sig (Elt F) := StableHlo.nullary main_c (fun i => lit0 (S32x72x64.rowMajor i))
/-- The input is cut into rows. -/
abbrev opRows : HloOp τ sig (Elt F) := StableHlo.reshape main_arg0 main_v0 (rfl : (.f32 : EltTy) = .f32) shapeCasts_S32x576x768_S18432x3x2x128
/-- The views' rows are put together as views. -/
abbrev opViews : HloOp τ sig (Elt F) := StableHlo.reshape main_v1_0 main_v2 (rfl : (.f32 : EltTy) = .f32) shapeCasts_S147456x3x2x128_S8x32x576x768
/-- The views are numbered. -/
abbrev opCount : HloOp τ sig (Elt F) := StableHlo.nullary main_v3 (iotaInDim S8 32 0)

/-- What the arrays hold at the launch, before the call, after it, and at the end. -/
def V0 (d : Dev nD) : Valuation τ sig (Elt F) := fun b => m (d, b)
/-- What the buffers hold before the launch. -/
def V2 (d : Dev nD) : Valuation τ sig (Elt F) := (opRows (F := F)).result ((opTable (F := F)).result (V0 m d))
/-- The patches as the subcores read them. -/
def rows (d : Dev nD) : S18432x3x2x128.Idx → Elt F .f32 := V2 m d t'
/-- What they hold after the launch. -/
def V3 (d : Dev nD) : Valuation τ sig (Elt F) := Function.update (Function.update (V2 m d) o' (augGoal (rows m d))) n' (invGoal (F := F))
/-- What they hold at the end. -/
def V5 (d : Dev nD) : Valuation τ sig (Elt F) := (opCount (F := F)).result ((opViews (F := F)).result (V3 m d))

/-- The seven buffers of the program. -/
abbrev S7 : Finset (DevRef τ sig) := {a', c', t', o', n', r', k'}

/-- Laying out the table uses these buffers alone. -/
theorem hTable : (opTable (F := F)).bufs ⊆ S7 := show ({c'} : Finset (DevRef τ sig)) ⊆ S7 by decide
/-- So does cutting the rows. -/
theorem hRows : (opRows (F := F)).bufs ⊆ S7 := show ({a', t'} : Finset (DevRef τ sig)) ⊆ S7 by decide
/-- So does putting the views together. -/
theorem hViews : (opViews (F := F)).bufs ⊆ S7 := show ({o', r'} : Finset (DevRef τ sig)) ⊆ S7 by decide
/-- So does numbering them. -/
theorem hCount : (opCount (F := F)).bufs ⊆ S7 := show ({k'} : Finset (DevRef τ sig)) ⊆ S7 by decide

/-- Before the launch the index table is laid out. -/
theorem V2_c (d : Dev nD) : V2 m d c' = (table (F := F)) := by
  unfold V2
  rw [(opRows (F := F)).result_of_not_mem _ (show c' ∉ ({t'} : Finset (DevRef τ sig)) by decide)]
  exact StableHlo.nullary_result' ..

/-- At the end: the patches are as they were; the views are the scattered rows; the inverses, the counting. -/
theorem V5_a (d : Dev nD) : V5 m d a' = m (aLoc d) := by
  unfold V5 V3 V2
  rw [(opCount (F := F)).result_of_not_mem _ (show a' ∉ ({k'} : Finset (DevRef τ sig)) by decide),
    (opViews (F := F)).result_of_not_mem _ (show a' ∉ ({r'} : Finset (DevRef τ sig)) by decide),
    Function.update_of_ne (show a' ≠ n' by decide), Function.update_of_ne (show a' ≠ o' by decide),
    (opRows (F := F)).result_of_not_mem _ (show a' ∉ ({t'} : Finset (DevRef τ sig)) by decide),
    (opTable (F := F)).result_of_not_mem _ (show a' ∉ ({c'} : Finset (DevRef τ sig)) by decide)]
  rfl
/-- At the end the inverses are those wanted. -/
theorem V5_n (d : Dev nD) : V5 m d n' = invGoal (F := F) := by
  unfold V5 V3
  rw [(opCount (F := F)).result_of_not_mem _ (show n' ∉ ({k'} : Finset (DevRef τ sig)) by decide),
    (opViews (F := F)).result_of_not_mem _ (show n' ∉ ({r'} : Finset (DevRef τ sig)) by decide), Function.update_self]
/-- At the end the views' numbers count up from zero. -/
theorem V5_k (d : Dev nD) : V5 m d k' = iotaInDim S8 32 0 := StableHlo.nullary_result' ..
/-- At the end the views are those wanted, put together from the rows. -/
theorem V5_r (d : Dev nD) : V5 m d r' = shapeCast S8x32x576x768 (augGoal (F := F) (shapeCast S18432x3x2x128 (m (aLoc d)) shapeCasts_S32x576x768_S18432x3x2x128))
    shapeCasts_S147456x3x2x128_S8x32x576x768 := by
  have ht : rows m d = shapeCast S18432x3x2x128 (m (aLoc d)) shapeCasts_S32x576x768_S18432x3x2x128 := by
    unfold rows V2
    refine (StableHlo.reshape_result' ..).trans ?_
    rw [(opTable (F := F)).result_of_not_mem _ (show a' ∉ ({c'} : Finset (DevRef τ sig)) by decide)]
    rfl
  unfold V5
  rw [(opCount (F := F)).result_of_not_mem _ (show r' ∉ ({k'} : Finset (DevRef τ sig)) by decide)]
  refine (StableHlo.reshape_result' ..).trans ?_
  unfold V3
  rw [Function.update_of_ne (show o' ≠ n' by decide), Function.update_self, ht]
  rfl

/-! ## What the handshakes carry -/

/-- The grid point of a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The share of the patches and of the index table that subcore `(c, s)` reads at. -/
def share (c : Fin 2) (s : Fin 16) : PosShare TreeShare :=
  Idealize.ShloMosaic.pieceOf (Idealize.ShloMosaic.pieceOf fullShare 2 (by decide) c) 16 (by decide) s

/-- What subcore `(c, s)` holds of the four arrays: its shares of the patches and of the index table, its elements of
    the views and of the inverses. -/
abbrev Part (d : Dev nD) (c : Fin 2) (s : Fin 16) (fo : S147456x3x2x128.Idx → Elt F .f32) (fn : S8x576.Idx → Elt F .i32) : sProp 𝕄 :=
  iprop((tLoc d ↦{share c s} rows m d) ∗ (cLoc d ↦{share c s} (table (F := F))) ∗ (oLoc d ↦[augOwn (coordsV c s)]{fullShare} fo) ∗ nLoc d ↦[invOwn (coordsV c s)]{fullShare} fn)

/-- What the launch gives each subcore, and what it gets back. -/
def P : (K (F := F)).Pay (nD := nD) (Val := Elt F) (Name := ℕ) (U := UU) where
  st := fun q d c => match q with | 0 => bigSep Finset.univ fun s : Fin 16 => Part m d c s (m (oLoc d)) (m (nLoc d))
  dn := fun q d c => match q with | 0 => bigSep Finset.univ fun s : Fin 16 => Part m d c s (augGoal (rows m d)) (invGoal (F := F))
  go := fun q d c i => match q with | 0 => Part m d c i (m (oLoc d)) (m (nLoc d))
  td := fun q d c i => match q with | 0 => Part m d c i (augGoal (rows m d)) (invGoal (F := F))
  x := fun _ _ => iprop(emp)

/-- All of it may be kept while the launch runs. -/
instance P_storable : (P (F := F) m).IsStorable where
  st q d c := match q with
    | 0 => (inferInstance : BI.Storable (upEmb : UEmb _ 𝕄) (bigSep Finset.univ fun s : Fin 16 => Part m d c s (m (oLoc d)) (m (nLoc d))))
  dn q d c := match q with
    | 0 => (inferInstance : BI.Storable (upEmb : UEmb _ 𝕄) (bigSep Finset.univ fun s : Fin 16 => Part m d c s (augGoal (rows m d)) (invGoal (F := F))))
  go q d c i := match q with
    | 0 => (inferInstance : BI.Storable (upEmb : UEmb _ 𝕄) (Part m d c i (m (oLoc d)) (m (nLoc d))))
  td q d c i := match q with
    | 0 => (inferInstance : BI.Storable (upEmb : UEmb _ 𝕄) (Part m d c i (augGoal (rows m d)) (invGoal (F := F))))

/-! ## The task -/

/-- Each subcore's body takes what it is given to what it gives back. -/
theorem tile_body (hF : (K (F := F)).Facts) (d : Dev nD) (c : Fin (grid0.bound 0)) (s : Fin (grid0.bound 1)) (O : CellTallies nD τ sig (HIx 1)) (W : Waits sig (HIx 1)) (hO : ∀ g, O g none = 0) :
    iprop(levAts (K (F := F)).L (K (F := F)).lev ∗ emp ∗ Part m d c s (m (oLoc d)) (m (nLoc d))
        ∗ scopedBufs (thr d (coordsV c s)) ∗ scopedSems0 (thr d (coordsV c s)) ∗ owes (thr d (coordsV c s)) O W)
      ⊢ WP d (coordsV c s) (body (F := F) (coordsV c s)) fun _ => iprop(Part m d c s (augGoal (rows m d)) (invGoal (F := F))
            ∗ scopedBufs (thr d (coordsV c s)) ∗ scopedSems0 (thr d (coordsV c s))
            ∗ ∃ W', ⌜∀ p ∈ W', p ∈ W ∨ p.2 = none⌝ ∗ owes (thr d (coordsV c s)) O W') := by
  have hb : (scopedBufs (thr d (coordsV c s)) : sProp 𝕄) = SparseCore.Cfg.ownBufs (thr d (coordsV c s)) := (K (F := F)).scopedBufs_V hF d _ _
  have hs : (scopedSems0 (thr d (coordsV c s)) : sProp 𝕄) = SparseCore.Cfg.ownSems0 (thr d (coordsV c s)) := SparseCore.Cfg.scopedSems0_V (Val := Elt F) d _ _
  rw [hb, hs]
  iintro ⟨#Hlv, -, ⟨HT, HC, HA, HN⟩, HB, HS, HO⟩
  ihave Hmw := (show levAts (K (F := F)).L (K (F := F)).lev ⊢ Transfers.MayWaits (thr d (coordsV c s)) (default : HIx 1) O from
    (K (F := F)).mayWaits_none (thr := thr d (coordsV c s)) hO) $$ Hlv
  ihave HX := (own_scratch (F := F) d (coordsV c s)) $$ [HB HS]
  · isplitl [HB]; · iexact HB
    iexact HS
  icases HX with ⟨HX, HB, HS⟩
  iapply (wp_wand_r frame _ Set.univ)
  isplitl [HT HC HA HN HX HO Hmw]
  · iapply (body_wp (F := F) (d := d) (i := coordsV c s) (share c s) (share c s) (rows m d) (table (F := F)) Table.table_ok (m (oLoc d)) (m (nLoc d)))
    unfold Ow
    isplitl [HT]; · iexact HT
    isplitl [HC]; · iexact HC
    isplitl [HA]; · iexact HA
    isplitl [HN]; · iexact HN
    isplitl [HX]; · iexact HX
    isplitl [Hmw]; · iexact Hmw
    iexists W; isplitr
    · ipureintro; exact fun p hp => .inl hp
    · iexact HO
  unfold Ow
  iintro %_ ⟨HT, HC, HA, HN, HX, -, HO⟩
  isplitl [HT HC HA HN]
  · isplitl [HT]; · iexact HT
    isplitl [HC]; · iexact HC
    isplitl [HA]; · iexact HA
    iexact HN
  ihave HX' := (scratch_own (F := F) d (coordsV c s)) $$ [HX HB HS]
  · isplitl [HX]; · iexact HX
    isplitl [HB]; · iexact HB
    iexact HS
  icases HX' with ⟨HB, HS⟩
  isplitl [HB]; · iexact HB
  isplitl [HS]; · iexact HS
  iexact HO

/-- A subcore's printed task is `Tile.body`. -/
theorem defs₀_vector (c : Fin τ.nSC) (s : Fin τ.nSub) :
    defs₀ (F := F) (.scVector c s) 0 () = SparseCore.onTile hcore0 hsub0 (fun c s => body (F := F) (coordsV c s)) ⟨⟩ c s := by
  refine Eq.trans (b := SparseCore.onTile hcore0 hsub0 (fun c s => cc0__body (F := F) (coordsV c s) tblV (Memref.isWhole_whole _) dstV (Memref.isWhole_whole _) augV (Memref.isWhole_whole _)
    invV (Memref.isWhole_whole _) idxV (Memref.isWhole_whole _) rowV (Memref.isWhole_whole _) (Memref.whole cc0_scratch2) (Memref.isWhole_whole _) (Memref.whole cc0_scratch3) (Memref.isWhole_whole _)
    cc0_scratch4 cc0_scratch5 cc0_scratch6 cc0_scratch7 cc0_scoped0 cc0_scoped1 cc0_scoped2 cc0_scoped3 cc0_scoped4 cc0_scoped5 cc0_scoped6 cc0_scoped7 cc0_scoped8) ⟨⟩ c s) rfl ?_
  exact congrArg (fun f => SparseCore.onTile hcore0 hsub0 f ⟨⟩ c s) (funext fun c => funext fun s => body_eq (F := F) (coordsV c s))

/-- A wait of no launch is also a wait of none or of this launch. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each subcore does what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d ⟨_, hci.1⟩ ⟨_, hci.2⟩ O W hO).trans (wp_mono frame _ _ fun _ => obl_post)

/-- A core's part is its subcores' parts. -/
theorem vecSplit : (K (F := F)).VecSplit' (P m) 0 := by
  intro d c
  show (bigSep Finset.univ fun s : Fin 16 => Part m d c s (m (oLoc d)) (m (nLoc d)))
    ⊢ |={Set.univ}=> iprop((bigSep Finset.univ fun s : Fin 16 => Part m d c s (m (oLoc d)) (m (nLoc d)))
      ∗ ((bigSep Finset.univ fun s : Fin 16 => Part m d c s (augGoal (rows m d)) (invGoal (F := F)))
          -∗ bigSep Finset.univ fun s : Fin 16 => Part m d c s (augGoal (rows m d)) (invGoal (F := F))))
  iintro H; imodintro
  isplitl [H]; · iexact H
  iintro H; iexact H

/-! ## The arrays are the subcores' parts of them -/

/-- A whole buffer is a share for each subcore. -/
theorem shares_eq (ℓ : Loc nD τ sig) (f : Buf (Elt F) ℓ) :
    (ℓ ↦{fullShare} f : sProp 𝕄) = bigSep Finset.univ fun c : Fin 2 => bigSep Finset.univ fun s : Fin 16 => ℓ ↦{share c s} f := by
  rw [Idealize.ShloMosaic.pointsTo_piecesOf Finset.univ f (o := 2) (by decide) fullShare]
  exact bigSep_congr fun c _ => Idealize.ShloMosaic.pointsTo_piecesOf Finset.univ f (o := 16) (by decide) _

/-- The number of the subcore at a grid point. -/
theorem wnum_at (c : Fin 2) (s : Fin 16) : wnum (coordsV c s) = 2 * s.val + c.val := rfl

/-- Every number below 32 is one subcore's. -/
theorem own_one (n : ℕ) (h : n < 32) : ∃ x : Fin 2 × Fin 16, n = wnum (coordsV x.1 x.2) :=
  ⟨(⟨n % 2, by omega⟩, ⟨n / 2, by omega⟩), by rw [wnum_at]; show n = 2 * (n / 2) + n % 2; omega⟩
/-- No two subcores have one number. -/
theorem own_unique (x x' : Fin 2 × Fin 16) (h : wnum (coordsV x.1 x.2) = wnum (coordsV x'.1 x'.2)) : x = x' := by
  rw [wnum_at, wnum_at] at h
  have h1 := x.1.isLt; have h2 := x'.1.isLt
  exact Prod.ext (Fin.ext (by omega)) (Fin.ext (by omega))

/-- The views' rows are the subcores' parts of them. -/
theorem views_eq (d : Dev nD) (f : S147456x3x2x128.Idx → Elt F .f32) :
    (oLoc d ↦{fullShare} f : sProp 𝕄) = bigSep Finset.univ fun c : Fin 2 => bigSep Finset.univ fun s : Fin 16 => oLoc d ↦[augOwn (coordsV c s)]{fullShare} f := by
  refine (pointsTo_cover (oLoc d) fullShare f Finset.univ (fun x : Fin 2 × Fin 16 => augOwn (coordsV x.1 x.2)) (fun z => ?_) fun z x x' h h' => ?_).trans (bigSep_univ_prod _)
  · have hz : (z 0).val < 147456 := (z 0).isLt
    obtain ⟨x, hx⟩ := own_one ((z 0).val % 18432 / 576) (by omega)
    exact ⟨fun _ => ⟨x, Finset.mem_filter.mpr ⟨Finset.mem_univ _, hx⟩⟩, fun _ => Finset.mem_univ _⟩
  · exact own_unique x x' ((Finset.mem_filter.mp h).2.symm.trans (Finset.mem_filter.mp h').2)

/-- The inverses are the subcores' parts of them. -/
theorem inverses_eq (d : Dev nD) (f : S8x576.Idx → Elt F .i32) :
    (nLoc d ↦{fullShare} f : sProp 𝕄) = bigSep Finset.univ fun c : Fin 2 => bigSep Finset.univ fun s : Fin 16 => nLoc d ↦[invOwn (coordsV c s)]{fullShare} f := by
  refine (pointsTo_cover (nLoc d) fullShare f Finset.univ (fun x : Fin 2 × Fin 16 => invOwn (coordsV x.1 x.2)) (fun z => ?_) fun z x x' h h' => ?_).trans (bigSep_univ_prod _)
  · have hz : (z 0).val < 8 := (z 0).isLt
    obtain ⟨x, hx⟩ := own_one (z 0).val (by omega)
    exact ⟨fun _ => ⟨x, Finset.mem_filter.mpr ⟨Finset.mem_univ _, hx⟩⟩, fun _ => Finset.mem_univ _⟩
  · exact own_unique x x' ((Finset.mem_filter.mp h).2.symm.trans (Finset.mem_filter.mp h').2)

/-- The four buffers of the launch are the subcores' parts of them. -/
theorem parts_eq (d : Dev nD) (fo : S147456x3x2x128.Idx → Elt F .f32) (fn : S8x576.Idx → Elt F .i32) :
    (iprop((tLoc d ↦{fullShare} rows m d) ∗ (cLoc d ↦{fullShare} (table (F := F))) ∗ (oLoc d ↦{fullShare} fo) ∗ nLoc d ↦{fullShare} fn) : sProp 𝕄)
      = bigSep Finset.univ fun c : Fin 2 => bigSep Finset.univ fun s : Fin 16 => Part m d c s fo fn := by
  unfold Part
  simp only [bigSep_sep']
  rw [← shares_eq, ← shares_eq, ← views_eq, ← inverses_eq]

/-- What the launch gives out, as those four buffers. -/
theorem st0_eq (d : Dev nD) : (bigSep Finset.univ fun c : Fin ((K (F := F)).nCore 0) => (P m).st 0 d c)
    = iprop((tLoc d ↦{fullShare} rows m d) ∗ (cLoc d ↦{fullShare} (table (F := F))) ∗ (oLoc d ↦{fullShare} m (oLoc d)) ∗ nLoc d ↦{fullShare} m (nLoc d)) :=
  (parts_eq m d (m (oLoc d)) (m (nLoc d))).symm
/-- What the launch gets back, as those four buffers. -/
theorem dn0_eq (d : Dev nD) : (bigSep Finset.univ fun c : Fin ((K (F := F)).nCore 0) => (P m).dn 0 d c)
    = iprop((tLoc d ↦{fullShare} rows m d) ∗ (cLoc d ↦{fullShare} (table (F := F))) ∗ (oLoc d ↦{fullShare} augGoal (rows m d)) ∗ nLoc d ↦{fullShare} (invGoal (F := F))) :=
  (parts_eq m d (augGoal (rows m d)) (invGoal (F := F))).symm

/-! ## The launch element of the certificate's ghost state -/

/-- The ghost state at the start. -/
def u₀ : UU := (initOf (K (F := F)).hsCells (K (F := F)).hsToks, 1)

/-- Nothing is nothing for each. -/
theorem emps {I : Type} (s : Finset I) : (iprop(emp) : sProp 𝕄) ⊢ bigSep s fun _ => iprop(emp) := Entails.of_eq (bigSep_emp_const s).symm
/-- No thread is given anything else. -/
theorem extras : (iprop(emp) : sProp 𝕄) ⊢ bigSep Finset.univ fun thr : Thread nD τ => bigSep Finset.univ fun q : Fin 1 => (P m).x q thr :=
  (emps (F := F) Finset.univ).trans (bigSep_mono fun _ _ => emps (F := F) Finset.univ)

/-- The ghost state at the start is the hand-shakes' and the counters'. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · iapply (emps (F := F) Finset.univ); iempintro
  · iapply (extras (F := F) m); iempintro

/-! ## @main -/

/-- Holding the seven buffers is holding each. -/
theorem held_S7 (d : Dev nD) (W : Valuation τ sig (Elt F)) :
    (held (SparseCore.T d) S7 W : sProp 𝕄)
      = iprop((aLoc d ↦{fullShare} W a') ∗ (cLoc d ↦{fullShare} W c') ∗ (tLoc d ↦{fullShare} W t') ∗ (oLoc d ↦{fullShare} W o') ∗ (nLoc d ↦{fullShare} W n')
          ∗ (rLoc d ↦{fullShare} W r') ∗ kLoc d ↦{fullShare} W k') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The program's buffers are those seven. -/
theorem unscoped_held (d : Dev nD) : (unscopedBufs d (fun b => m ((SparseCore.T d).loc b)) : sProp 𝕄) = held (SparseCore.T d) S7 (V0 m d) := by
  rw [held_S7]
  unfold unscopedBufs
  rw [show (Finset.univ.filter fun b : Ref sig .tc => ¬ b.isScoped) = {main_arg0, main_c, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- Before the launch the views' rows are as they were. -/
theorem V2_o (d : Dev nD) : V2 m d o' = m (oLoc d) := by
  unfold V2
  rw [(opRows (F := F)).result_of_not_mem _ (show o' ∉ ({t'} : Finset (DevRef τ sig)) by decide),
    (opTable (F := F)).result_of_not_mem _ (show o' ∉ ({c'} : Finset (DevRef τ sig)) by decide)]
  rfl
/-- Before the launch the inverses are as they were. -/
theorem V2_n (d : Dev nD) : V2 m d n' = m (nLoc d) := by
  unfold V2
  rw [(opRows (F := F)).result_of_not_mem _ (show n' ∉ ({t'} : Finset (DevRef τ sig)) by decide),
    (opTable (F := F)).result_of_not_mem _ (show n' ∉ ({c'} : Finset (DevRef τ sig)) by decide)]
  rfl

/-- The seven arrays before the call, and after it. -/
theorem held_V2 (d : Dev nD) : (held (SparseCore.T d) S7 (V2 m d) : sProp 𝕄)
    = iprop((aLoc d ↦{fullShare} V2 m d a') ∗ (cLoc d ↦{fullShare} (table (F := F))) ∗ (tLoc d ↦{fullShare} rows m d) ∗ (oLoc d ↦{fullShare} m (oLoc d)) ∗ (nLoc d ↦{fullShare} m (nLoc d))
          ∗ (rLoc d ↦{fullShare} V2 m d r') ∗ kLoc d ↦{fullShare} V2 m d k') := by
  rw [held_S7, V2_c, V2_o, V2_n]; rfl
/-- Holding the seven buffers after the launch. -/
theorem held_V3 (d : Dev nD) : (held (SparseCore.T d) S7 (V3 m d) : sProp 𝕄)
    = iprop((aLoc d ↦{fullShare} V2 m d a') ∗ (cLoc d ↦{fullShare} (table (F := F))) ∗ (tLoc d ↦{fullShare} rows m d) ∗ (oLoc d ↦{fullShare} augGoal (rows m d)) ∗ (nLoc d ↦{fullShare} (invGoal (F := F)))
          ∗ (rLoc d ↦{fullShare} V2 m d r') ∗ kLoc d ↦{fullShare} V2 m d k') := by
  have e : ∀ b : DevRef τ sig, b ≠ n' → b ≠ o' → V3 m d b = V2 m d b := fun b h h' =>
    (Function.update_of_ne h _ _).trans (Function.update_of_ne h' _ _)
  rw [held_S7, e a' (by decide) (by decide), e c' (by decide) (by decide), e t' (by decide) (by decide), e r' (by decide) (by decide), e k' (by decide) (by decide), V2_c,
    show V3 m d n' = invGoal (F := F) from Function.update_self _ _ _,
    show V3 m d o' = augGoal (rows m d) from (Function.update_of_ne (show o' ≠ n' by decide) _ _).trans (Function.update_self _ _ _)]
  rfl

/-- What @main leaves the claims. -/
abbrev FIN (d : Dev nD) : sProp 𝕄 := held (SparseCore.T d) S7 (V5 m d)

/-- @main on device `d`: the index table and the rows; the call; the views and the counting. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTable) (S := S7) hTable (V := V0 m d)) $$ [Hb Hheld]
  · isplitl [Hb] <;> iassumption
  iintro ⟨Hb, Hheld⟩
  rw [wp_ret]; imodintro
  iapply (wp_hlo_within 𝒱 (SparseCore.T d) none Set.univ (op := opRows) (S := S7) hRows (V := (opTable (F := F)).result (V0 m d))) $$ [Hb Hheld]
  · isplitl [Hb] <;> iassumption
  iintro ⟨Hb, Hheld⟩
  rw [wp_ret]; imodintro
  ihave Hh := (show held (SparseCore.T d) S7 ((opRows (F := F)).result ((opTable (F := F)).result (V0 m d))) ⊢ _ from Entails.of_eq (held_V2 (F := F) m d)) $$ Hheld
  icases Hh with ⟨Ha, Hc, Ht, Ho, Hn, Hr, Hk⟩
  iapply ((K (F := F)).wp_run (D (F := F)) 𝒱 (EH := EH) (P := P m) κ d 0) $$ [Hst Ha Hc Ht Ho Hn Hr Hk Hb Hts]
  isplitr; · iexact Hctx
  isplitl [Hst]; · iexact Hst
  isplitl [Hc Ht Ho Hn]
  · rw [st0_eq]
    isplitl [Ht]; · iexact Ht
    isplitl [Hc]; · iexact Hc
    isplitl [Ho]; · iexact Ho
    iexact Hn
  iintro ⟨Hst, Hdn⟩
  ihave Hdn' := (Entails.of_eq (dn0_eq m d)) $$ Hdn
  icases Hdn' with ⟨Ht, Hc, Ho, Hn⟩
  iapply (wp_hlo_within 𝒱 (SparseCore.T d) none Set.univ (op := opViews) (S := S7) hViews (V := V3 m d)) $$ [Hb Ha Hc Ht Ho Hn Hr Hk]
  · isplitl [Hb]; · iexact Hb
    rw [held_V3]
    isplitl [Ha]; · iexact Ha
    isplitl [Hc]; · iexact Hc
    isplitl [Ht]; · iexact Ht
    isplitl [Ho]; · iexact Ho
    isplitl [Hn]; · iexact Hn
    isplitl [Hr]; · iexact Hr
    iexact Hk
  iintro ⟨Hb, Hheld⟩
  rw [wp_ret]; imodintro
  iapply (wp_hlo_within 𝒱 (SparseCore.T d) none Set.univ (op := opCount) (S := S7) hCount (V := (opViews (F := F)).result (V3 m d))) $$ [Hb Hheld]
  · isplitl [Hb] <;> iassumption
  iintro ⟨Hb, Hheld⟩
  rw [wp_ret]; imodintro; imodintro
  isplitl [Hst]; · iexact Hst
  isplitl [Hheld]; · iexact Hheld
  isplitl [Hb] <;> iassumption

/-- What the claims read of device `d`'s final state. -/
def fq (d : Dev nD) (s' : Phys nD τ sig (Elt F)) : Prop :=
  s'.mem.mem (aLoc d) = V5 m d a' ∧ s'.mem.mem (nLoc d) = V5 m d n' ∧ s'.mem.mem (rLoc d) = V5 m d r' ∧ s'.mem.mem (kLoc d) = V5 m d k'

/-- A buffer held is what memory holds. -/
theorem read_one (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- What is held at the end is what memory holds. -/
theorem hfin (d : Dev nD) (s' : Phys nD τ sig (Elt F)) : iprop(FIN m d ∗ SI s') ⊢ (⌜fq m d s'⌝ : sProp 𝕄) := by
  unfold FIN
  rw [held_S7]
  iintro ⟨⟨Ha, -, -, -, Hn, Hr, Hk⟩, HSI⟩
  ihave H := (read_one (aLoc d) (V5 m d a') s') $$ [HSI Ha]
  · isplitl [HSI] <;> iassumption
  icases H with ⟨%ha, HSI⟩
  ihave H := (read_one (nLoc d) (V5 m d n') s') $$ [HSI Hn]
  · isplitl [HSI] <;> iassumption
  icases H with ⟨%hn, HSI⟩
  ihave H := (read_one (rLoc d) (V5 m d r') s') $$ [HSI Hr]
  · isplitl [HSI] <;> iassumption
  icases H with ⟨%hr, HSI⟩
  ihave H := (read_one (kLoc d) (V5 m d k') s') $$ [HSI Hk]
  · isplitl [HSI] <;> iassumption
  icases H with ⟨%hk, -⟩
  ipureintro; exact ⟨ha, hn, hr, hk⟩

/-! ## The program's run -/

/-- The eight views of the patches: row `(a, w, n)` of the result is row `(w, fwd a n)` of the patches. -/
def views (f : S32x576x768.Idx → Elt F .f32) : S8x32x576x768.Idx → Elt F .f32 :=
  shapeCast S8x32x576x768 (augGoal (F := F) (shapeCast S18432x3x2x128 f shapeCasts_S32x576x768_S18432x3x2x128)) shapeCasts_S147456x3x2x128_S8x32x576x768

/-- What is claimed of memory at the end. -/
def QC : PUnit × MemSt nD τ sig (Elt F) → Prop := fun r =>
  (∀ c : Dev nD, r.2.mem (aLoc c) = m (aLoc c) ∧ r.2.mem (nLoc c) = invGoal (F := F) ∧ r.2.mem (rLoc c) = views (m (aLoc c)) ∧ r.2.mem (kLoc c) = iotaInDim S8 32 0) ∧ r.2.sem = fun _ => 0

/-- Every run of the program ends with memory as claimed. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(h c).1.trans (V5_a m c), (h c).2.1.trans (V5_n m c), (h c).2.2.1.trans (V5_r m c), (h c).2.2.2.trans (V5_k m c)⟩, hz⟩)

end Cert.Proof.Launch

end
-- ==== Proof.Views.lean ====
/- The kernel's first result as a formula of the patches. -/
module

public import proofs.«01_k».proof.Proof.Launch

@[expose] public section

noncomputable section

namespace Cert.Proof.Launch

open Cert.KernelIdeal Cert.KernelIdeal.Gen
open Cert.Proof.Tile
open Idealize.ShloMosaic Idealize.ShloMosaic.ValueIdx

variable {F : FTy → Type} [FloatOps F]

/-- Where an element of the eight views lies among the scattered rows. -/
theorem place_of_view (h : S8x32x576x768.numel = S147456x3x2x128.numel) (x : S8x32x576x768.Idx) :
    Shape.reshapeEquiv (s := S147456x3x2x128) (s' := S8x32x576x768) h x
      = (ix4 (n0 := 147456) (n1 := 3) (n2 := 2) (n3 := 128)
          ⟨(x 0).val * 18432 + (x 1).val * 576 + (x 2).val, by
            have h0 : (x 0).val < 8 := (x 0).isLt; have h1 : (x 1).val < 32 := (x 1).isLt; have h2 : (x 2).val < 576 := (x 2).isLt; omega⟩
          ⟨(x 3).val / 256, by have h3 : (x 3).val < 768 := (x 3).isLt; omega⟩ ⟨(x 3).val % 256 / 128, by omega⟩ ⟨(x 3).val % 128, by omega⟩ : S147456x3x2x128.Idx) := by
  refine Shape.reshapeEquiv_eq_of_rowMajor _ ?_
  refine (Shape.rowMajor_val_four (d := ![147456, 3, 2, 128]) _).trans (Eq.trans ?_ (Shape.rowMajor_val_four (d := ![8, 32, 576, 768]) _).symm)
  show ((((x 0).val * 18432 + (x 1).val * 576 + (x 2).val) * 3 + (x 3).val / 256) * 2 + (x 3).val % 256 / 128) * 128 + (x 3).val % 128
    = (((x 0).val * 32 + (x 1).val) * 576 + (x 2).val) * 768 + (x 3).val
  omega

/-- Where an element of the subcores' rows lies among the patches. -/
theorem place_of_row (h : S18432x3x2x128.numel = S32x576x768.numel) (w : Fin 32) (n : Fin 576) (k : Fin 768) :
    Shape.reshapeEquiv (s := S32x576x768) (s' := S18432x3x2x128) h
        (ix4 (n0 := 18432) (n1 := 3) (n2 := 2) (n3 := 128) ⟨w.val * 576 + n.val, by omega⟩ ⟨k.val / 256, by omega⟩ ⟨k.val % 256 / 128, by omega⟩ ⟨k.val % 128, by omega⟩)
      = (ix3 w n k : S32x576x768.Idx) := by
  refine Shape.reshapeEquiv_eq_of_rowMajor _ ?_
  refine (Shape.rowMajor_val_three (d := ![32, 576, 768]) _).trans (Eq.trans ?_ (Shape.rowMajor_val_four (d := ![18432, 3, 2, 128]) _).symm)
  show (w.val * 576 + n.val) * 768 + k.val = (((w.val * 576 + n.val) * 3 + k.val / 256) * 2 + k.val % 256 / 128) * 128 + k.val % 128
  omega

/-- In augmentation `a` image `w` has at place `m` the row of the patches that `a` shows there. -/
theorem views_at (f : S32x576x768.Idx → Elt F .f32) (x : S8x32x576x768.Idx) :
    views f x = f (ix3 (x 1) ⟨Perm.fwd (x 0).val (x 2).val, Perm.fwd_lt (x 0) (x 2)⟩ (x 3)) := by
  have h0 : (x 0).val < 8 := (x 0).isLt
  have h1 : (x 1).val < 32 := (x 1).isLt
  have h2 : (x 2).val < 576 := (x 2).isLt
  show augGoal (F := F) (shapeCast S18432x3x2x128 f shapeCasts_S32x576x768_S18432x3x2x128) (Shape.reshapeEquiv (s := S147456x3x2x128) (s' := S8x32x576x768) _ x) = _
  rw [place_of_view]
  refine Eq.trans ?_ (congrArg f (place_of_row shapeCasts_S32x576x768_S18432x3x2x128 (x 1) ⟨Perm.fwd (x 0).val (x 2).val, Perm.fwd_lt (x 0) (x 2)⟩ (x 3)))
  unfold augGoal
  refine congrArg (shapeCast S18432x3x2x128 f shapeCasts_S32x576x768_S18432x3x2x128) (congrArg (fun r => ix4 (n0 := 18432) (n1 := 3) (n2 := 2) (n3 := 128) r _ _ _) (Fin.ext ?_))
  show ((x 0).val * 18432 + (x 1).val * 576 + (x 2).val) % 18432 / 576 * 576
      + Perm.fwd (((x 0).val * 18432 + (x 1).val * 576 + (x 2).val) / 18432) (((x 0).val * 18432 + (x 1).val * 576 + (x 2).val) % 576)
    = (x 1).val * 576 + Perm.fwd (x 0).val (x 2).val
  rw [show ((x 0).val * 18432 + (x 1).val * 576 + (x 2).val) % 18432 / 576 = (x 1).val by omega,
    show ((x 0).val * 18432 + (x 1).val * 576 + (x 2).val) / 18432 = (x 0).val by omega,
    show ((x 0).val * 18432 + (x 1).val * 576 + (x 2).val) % 576 = (x 2).val by omega]

end Cert.Proof.Launch

end
-- ==== Proof.RefValue.lean ====
/- What the reference computes: the eight orders of the grid, their inverses by sorting, and the rows they take. -/
module

public import proofs.«01_k».proof.Proof.Gen.ReferenceIdeal.Run
public import proofs.«01_k».proof.Proof.Perm
public import Idealize.ShloMosaic.Lib.ValueIdx
public import Idealize.ShloMosaic.Lib.Pipeline.Value
public import Idealize.ShloMosaic.Lib.SortNet.HostSort
public import Idealize.ShloMosaic.PureOps.Reduce

@[expose] public section

noncomputable section

namespace Cert.Proof.Ref

open Cert.ReferenceIdeal Cert.ReferenceIdeal.Gen Cert.ReferenceIdeal.Value
open Idealize.ShloMosaic Idealize.ShloMosaic.ValueIdx Idealize.ShloMosaic.StableHlo

variable {F : FTy → Type} [FloatOps F]

/-! ## Grids of positions -/

/-- The grid `g` holds the number `f r c` in row `r` and column `c`. -/
def GridOK (g : IVec S24x24 32) (f : ℕ → ℕ → ℕ) : Prop := ∀ r c : Fin 24, g (ix2 r c) = BitVec.ofNat 32 (f r.val c.val)

/-- The list `x` names at place `n` the patch that augmentation `a` shows there. -/
def KeyOK (a : Fin 8) (x : IVec S576 32) : Prop := ∀ n : Fin 576, x (ix1 n) = BitVec.ofNat 32 (Perm.fwd a.val n.val)

/-- Row `r` and column `c` of the grid is position `24 r + c`. -/
theorem pos_of_grid (h : S24x24.numel = S576.numel) (r c : Fin 24) :
    Shape.reshapeEquiv (s := S576) (s' := S24x24) h (ix2 r c) = (ix1 (n := 576) ⟨24 * r.val + c.val, by omega⟩ : S576.Idx) := by
  refine Shape.reshapeEquiv_eq_of_rowMajor _ ?_
  refine (Shape.rowMajor_val_one (d := ![576]) _).trans (Eq.trans ?_ (Shape.rowMajor_val_two (d := ![24, 24]) _).symm)
  show 24 * r.val + c.val = r.val * 24 + c.val
  omega

/-- Position `n` is row `n / 24` and column `n % 24` of the grid. -/
theorem grid_of_pos (h : S576.numel = S24x24.numel) (n : Fin 576) :
    Shape.reshapeEquiv (s := S24x24) (s' := S576) h (ix1 n) = (ix2 (n0 := 24) (n1 := 24) ⟨n.val / 24, by omega⟩ ⟨n.val % 24, by omega⟩ : S24x24.Idx) := by
  refine Shape.reshapeEquiv_eq_of_rowMajor _ ?_
  refine (Shape.rowMajor_val_two (d := ![24, 24]) _).trans (Eq.trans ?_ (Shape.rowMajor_val_one (d := ![576]) _).symm)
  show n.val / 24 * 24 + n.val % 24 = n.val
  omega

/-- The positions laid out as a grid count along its rows. -/
theorem grid_count : GridOK (shapeCast S24x24 (iotaInDim S576 32 0) shapeCasts_S576_S24x24) fun r c => 24 * r + c := fun r c => by
  show iotaInDim S576 32 0 (Shape.reshapeEquiv (s := S576) (s' := S24x24) _ (ix2 r c)) = _
  rw [pos_of_grid]; rfl

/-- A grid with its columns reversed. -/
theorem grid_columns {g : IVec S24x24 32} {f : ℕ → ℕ → ℕ} (hg : GridOK g f) : GridOK (Host.reverse [1] g) fun r c => f r (23 - c) := fun r c => by
  have e : (fun a : Fin 2 => if a ∈ ([1] : List (Fin 2)) then ((ix2 r c : S24x24.Idx) a).rev else (ix2 r c : S24x24.Idx) a) = (ix2 r c.rev : S24x24.Idx) := by
    funext a
    match a with
    | ⟨0, _⟩ => rfl
    | ⟨1, _⟩ => rfl
  refine (congrArg g e).trans ((hg r c.rev).trans ?_)
  rw [Fin.val_rev, show 24 - (c.val + 1) = 23 - c.val by omega]

/-- A grid with its rows reversed. -/
theorem grid_rows {g : IVec S24x24 32} {f : ℕ → ℕ → ℕ} (hg : GridOK g f) : GridOK (Host.reverse [0] g) fun r c => f (23 - r) c := fun r c => by
  have e : (fun a : Fin 2 => if a ∈ ([0] : List (Fin 2)) then ((ix2 r c : S24x24.Idx) a).rev else (ix2 r c : S24x24.Idx) a) = (ix2 r.rev c : S24x24.Idx) := by
    funext a
    match a with
    | ⟨0, _⟩ => rfl
    | ⟨1, _⟩ => rfl
  refine (congrArg g e).trans ((hg r.rev c).trans ?_)
  rw [Fin.val_rev, show 24 - (r.val + 1) = 23 - r.val by omega]

/-- A grid with rows and columns exchanged. -/
theorem grid_diagonal {g : IVec S24x24 32} {f : ℕ → ℕ → ℕ} (hg : GridOK g f) :
    GridOK (transpose S24x24 [1, 0] g transposes_S24x24_S24x24_1_0) fun r c => f c r := fun r c => by
  have e : (transposes_S24x24_S24x24_1_0 : S24x24.Transposes [1, 0] S24x24).src (ix2 r c) = (ix2 c r : S24x24.Idx) := by
    funext a
    match a with
    | ⟨0, _⟩ => rfl
    | ⟨1, _⟩ => rfl
  exact (congrArg g e).trans (hg c r)

/-- A grid that holds augmentation `a`'s permutation gives its key when laid out in a line. -/
theorem key_of_grid (a : Fin 8) {g : IVec S24x24 32} {f : ℕ → ℕ → ℕ} (hg : GridOK g f) (hf : ∀ n : Fin 576, f (n.val / 24) (n.val % 24) = Perm.fwd a.val n.val) :
    KeyOK a (shapeCast S576 g shapeCasts_S24x24_S576) := fun n => by
  show g (Shape.reshapeEquiv (s := S24x24) (s' := S576) _ (ix1 n)) = _
  rw [grid_of_pos, hg]
  exact congrArg _ (hf n)

/-! ## The reference's eight lists -/

variable (V : Valuation τ sig (Elt F))

/-- The reference's list of the patches that augmentation `a` shows. -/
def key : Fin 8 → IVec S576 32
  | 0 => res_main_v3 V
  | 1 => res_main_v7 V
  | 2 => res_main_v11 V
  | 3 => res_main_v15 V
  | 4 => res_main_v19 V
  | 5 => res_main_v23 V
  | 6 => res_main_v27 V
  | 7 => res_main_v31 V

/-- The reference's eight keys are the eight permutations. -/
theorem key_ok : ∀ a : Fin 8, KeyOK a (key V a)
  | 0 => key_of_grid 0 grid_count fun n => by show _ = 24 * (n.val / 24) + n.val % 24; omega
  | 1 => key_of_grid 1 (grid_columns grid_count) fun n => by show _ = 23 + 24 * (n.val / 24) - n.val % 24; omega
  | 2 => key_of_grid 2 (grid_diagonal (grid_columns grid_count)) fun n => by show _ = 23 + 24 * (n.val % 24) - n.val / 24; omega
  | 3 => key_of_grid 3 (grid_columns (grid_diagonal (grid_columns grid_count))) fun n => by show _ = 575 - n.val / 24 - 24 * (n.val % 24); omega
  | 4 => key_of_grid 4 (grid_columns (grid_rows grid_count)) fun n => by show _ = 575 - 24 * (n.val / 24) - n.val % 24; omega
  | 5 => key_of_grid 5 (grid_columns (grid_columns (grid_rows grid_count))) fun n => by show _ = 552 + n.val % 24 - 24 * (n.val / 24); omega
  | 6 => key_of_grid 6 (grid_columns (grid_diagonal grid_count)) fun n => by show _ = 552 + n.val / 24 - 24 * (n.val % 24); omega
  | 7 => key_of_grid 7 (grid_columns (grid_columns (grid_diagonal grid_count))) fun n => by show _ = n.val / 24 + 24 * (n.val % 24); omega

/-! ## Sorting a list gives its inverse -/

/-- Positions compare as words as they do as numbers. -/
theorem word_less : ∀ x y : Fin 576, (IntOp.cmpi .slt (BitVec.ofNat 32 x.val) (BitVec.ofNat 32 y.val) == 1#1) = decide (x.val < y.val) := fun x y => by
  have hi : ∀ k : Fin 576, (BitVec.ofNat 32 k.val).toInt = (k.val : ℤ) := by decide +kernel
  have hs : (BitVec.ofNat 32 x.val).slt (BitVec.ofNat 32 y.val) = decide (x.val < y.val) := by
    unfold BitVec.slt
    rw [hi, hi]
    exact decide_eq_decide.mpr Int.ofNat_lt
  show (BitVec.ofBool ((BitVec.ofNat 32 x.val).slt (BitVec.ofNat 32 y.val)) == 1#1) = _
  rw [hs]
  by_cases h : x.val < y.val
  · rw [decide_eq_true h]; rfl
  · rw [decide_eq_false h]; rfl

/-- Augmentation `a`'s rearrangement, as a permutation of the 576 places. -/
def invPerm (a : Fin 8) : Equiv.Perm (Fin 576) where
  toFun n := ⟨Perm.inv a.val n.val, Perm.inv_lt a n⟩
  invFun n := ⟨Perm.fwd a.val n.val, Perm.fwd_lt a n⟩
  left_inv n := Fin.ext (Perm.fwd_inv a n)
  right_inv n := Fin.ext (Perm.inv_fwd a n)

/-- Sorting positions by a permutation gives its inverse. -/
theorem order_of_key (a : Fin 8) {x y : IVec S576 32} (hx : KeyOK a x) (hy : ∀ n : Fin 576, y (ix1 n) = BitVec.ofNat 32 n.val) (n : Fin 576) :
    (Host.sort2 S576 0 comparator_i32_i32_d0 x y).2 (ix1 n) = BitVec.ofNat 32 (Perm.inv a.val n.val) := by
  have hd : 0 < S576.rank := Nat.zero_lt_one
  have e : ∀ (j : S576.Idx) (c : Fin 576), j.along (⟨0, hd⟩ : Fin S576.rank) c = (ix1 c : S576.Idx) := fun j c => by
    funext b
    match b with
    | ⟨0, _⟩ => rfl
  have hsort : sortedFrom (n := 576) (fun k k' : Fin 576 => comparator_i32_i32_d0 (x ((ix1 n : S576.Idx).along ⟨0, hd⟩ k), y ((ix1 n : S576.Idx).along ⟨0, hd⟩ k))
        (x ((ix1 n : S576.Idx).along ⟨0, hd⟩ k'), y ((ix1 n : S576.Idx).along ⟨0, hd⟩ k')) == 1#1) n = invPerm a n := by
    have hb : (fun k k' : Fin 576 => comparator_i32_i32_d0 (x ((ix1 n : S576.Idx).along ⟨0, hd⟩ k), y ((ix1 n : S576.Idx).along ⟨0, hd⟩ k))
        (x ((ix1 n : S576.Idx).along ⟨0, hd⟩ k'), y ((ix1 n : S576.Idx).along ⟨0, hd⟩ k')) == 1#1) = fun k k' => decide (Perm.fwd a.val k.val < Perm.fwd a.val k'.val) := by
      funext k k'
      show (IntOp.cmpi .slt (x ((ix1 n : S576.Idx).along ⟨0, hd⟩ k)) (x ((ix1 n : S576.Idx).along ⟨0, hd⟩ k')) == 1#1) = _
      rw [e, e, hx, hx]
      exact word_less ⟨_, Perm.fwd_lt a k⟩ ⟨_, Perm.fwd_lt a k'⟩
    rw [hb]
    have hperm : (List.ofFn fun k => invPerm a k).Perm (List.finRange 576) := by
      have h := Equiv.Perm.ofFn_comp_perm (invPerm a) (id : Fin 576 → Fin 576)
      rw [List.ofFn_id] at h
      exact h
    have hs : (List.ofFn fun k => invPerm a k).Pairwise fun k k' => Perm.fwd a.val k.val < Perm.fwd a.val k'.val := by
      rw [List.pairwise_ofFn]
      intro k k' hk
      show Perm.fwd a.val (Perm.inv a.val k.val) < Perm.fwd a.val (Perm.inv a.val k'.val)
      rw [Perm.fwd_inv a k, Perm.fwd_inv a k']
      exact hk
    refine (SortNet.sortedFrom_eq_getElem_of_pairwise_lt (fun k : Fin 576 => Perm.fwd a.val k.val) _ hperm hs n (by rw [List.length_ofFn]; exact n.isLt)).trans ?_
    exact List.getElem_ofFn _
  unfold Host.sort2
  rw [dif_pos hd]
  refine (congrArg (fun c : Fin 576 => y ((ix1 n : S576.Idx).along ⟨0, hd⟩ c)) hsort).trans ?_
  exact (congrArg y (e _ _)).trans (hy _)

/-! ## Taking rows by a list -/

/-- The list as the reference reads rows by it: a negative entry counts from the end. -/
def wrapped (x : IVec S576 32) : IVec S576x1 32 :=
  broadcastInDim S576x1 ![0] bcast_S576_S576x1_0 (select (cmpi .slt x (broadcastInDim S576 ![] bcast_S_S576 (constantI S_ 32 0#32))) (addi x (broadcastInDim S576 ![] bcast_S_S576 (constantI S_ 32 576#32))) x)

/-- Which of the entries lie within the grid. -/
def within (v : IVec S576x1 32) : IVec S576x1 1 :=
  andi (cmpi .sge v (broadcastInDim S576x1 ![] bcast_S_S576x1 (constantI S_ 32 0#32))) (cmpi .sle v (broadcastInDim S576x1 ![0, 1] bcast_S1x1_S576x1_0_1 (broadcastInDim S1x1 ![1] bcast_S1_S1x1_1 (constantI S1 32 575#32))))

/-- The rows that the entries name. -/
def taken (P : S32x576x768.Idx → Elt F .f32) (v : IVec S576x1 32) : S32x576x768.Idx → Elt F .f32 :=
  select (broadcastInDim S32x576x768 ![1] bcast_S576_S32x576x768_1 (Host.reduce IntOp.andi (within v) (constantI S_ 1 1#1) reducesTo_S576x1_S576_d1 h_S_))
    (Host.gather gather_S32x576x768_S576x1_S32x576x768_02_1_n_n_1_1_321768 P v) (broadcastInDim S32x576x768 ![] bcast_S_S32x576x768 (constant S_ .f32 0x7FC00000#32))

/-- The keys are not negative, so wrapping leaves them as they are. -/
theorem wrapped_at (a : Fin 8) {x : IVec S576 32} (hx : KeyOK a x) (j : S576x1.Idx) : wrapped x j = BitVec.ofNat 32 (Perm.fwd a.val (j 0).val) := by
  have hneg : ∀ k : Fin 576, IntOp.cmpi .slt (BitVec.ofNat 32 k.val) 0#32 = 0#1 := by decide +kernel
  have hj : (j 0).val < 576 := (j 0).isLt
  have hxj := hx ⟨(j 0).val, hj⟩
  show (select (cmpi .slt x (broadcastInDim S576 ![] bcast_S_S576 (constantI S_ 32 0#32))) (addi x (broadcastInDim S576 ![] bcast_S_S576 (constantI S_ 32 576#32))) x : IVec S576 32) _ = _
  rw [eq_ix1 (n := 576) (fun b => _)]
  show (if IntOp.cmpi .slt (x (ix1 ⟨(j 0).val, hj⟩)) 0#32 = 1#1 then _ else x (ix1 ⟨(j 0).val, hj⟩)) = _
  rw [hxj, hneg ⟨_, Perm.fwd_lt a ⟨(j 0).val, hj⟩⟩]
  exact if_neg (by decide)

/-- The keys are within range. -/
theorem within_at (a : Fin 8) {x : IVec S576 32} (hx : KeyOK a x) (j : S576x1.Idx) : within (wrapped x) j = 1#1 := by
  have hin : ∀ k : Fin 576, IntOp.andi (IntOp.cmpi .sge (BitVec.ofNat 32 k.val) 0#32) (IntOp.cmpi .sle (BitVec.ofNat 32 k.val) 575#32) = 1#1 := by decide +kernel
  have hj : (j 0).val < 576 := (j 0).isLt
  show IntOp.andi (IntOp.cmpi .sge (wrapped x j) 0#32) (IntOp.cmpi .sle (wrapped x j) 575#32) = 1#1
  rw [wrapped_at a hx]
  exact hin ⟨_, Perm.fwd_lt a ⟨(j 0).val, hj⟩⟩

/-- Ones joined by and are one. -/
theorem all_ones {ι : Type} (x : ι → BitVec 1) (hx : ∀ i, x i = 1#1) : ∀ l : List ι, l.foldl (fun r i => IntOp.andi r (x i)) 1#1 = 1#1
  | [] => rfl
  | i :: l => by rw [List.foldl_cons, hx i]; exact all_ones x hx l

/-- Gathering by a key takes the rows its permutation names. -/
theorem gather_at (a : Fin 8) {x : IVec S576 32} (hx : KeyOK a x) (P : S32x576x768.Idx → Elt F .f32) (w : Fin 32) (n : Fin 576) (k : Fin 768) :
    Host.gather gather_S32x576x768_S576x1_S32x576x768_02_1_n_n_1_1_321768 P (wrapped x) (ix3 w n k) = P (ix3 w ⟨Perm.fwd a.val n.val, Perm.fwd_lt a n⟩ k) := by
  have hn : ∀ q : Fin 576, min (BitVec.ofNat 32 q.val).toInt.toNat 575 = q.val := by decide +kernel
  unfold Host.gather
  refine congrArg P (funext fun b => Fin.ext ?_)
  show (gather_S32x576x768_S576x1_S32x576x768_02_1_n_n_1_1_321768).start (ix3 w n k) (wrapped x) b
    + (gather_S32x576x768_S576x1_S32x576x768_02_1_n_n_1_1_321768).batchCoord (ix3 w n k) b
    + (gather_S32x576x768_S576x1_S32x576x768_02_1_n_n_1_1_321768).offCoord (ix3 w n k) b = _
  rw [GatherDims.batchCoord_eq_zero _ _ _ List.not_mem_nil, Nat.add_zero]
  have hb : b = (0 : Fin 3) ∨ b = (1 : Fin 3) ∨ b = (2 : Fin 3) := by
    match b with
    | ⟨0, _⟩ => exact .inl rfl
    | ⟨1, _⟩ => exact .inr (.inl rfl)
    | ⟨2, _⟩ => exact .inr (.inr rfl)
  rcases hb with rfl | rfl | rfl
  · unfold GatherDims.start GatherDims.offCoord
    rw [dif_neg (by decide), dif_pos (by decide), Nat.zero_add]
    rfl
  · unfold GatherDims.start GatherDims.offCoord
    rw [dif_pos (show (1 : Fin 3) ∈ gather_S32x576x768_S576x1_S32x576x768_02_1_n_n_1_1_321768.startIndexMap from List.mem_singleton.mpr rfl), dif_neg (by decide), Nat.add_zero, wrapped_at a hx]
    exact hn ⟨_, Perm.fwd_lt a n⟩
  · unfold GatherDims.start GatherDims.offCoord
    rw [dif_neg (by decide), dif_pos (by decide), Nat.zero_add]
    rfl

/-- No row is out of range, so what is taken is what was gathered. -/
theorem taken_at (a : Fin 8) {x : IVec S576 32} (hx : KeyOK a x) (P : S32x576x768.Idx → Elt F .f32) (w : Fin 32) (n : Fin 576) (k : Fin 768) :
    taken P (wrapped x) (ix3 w n k) = P (ix3 w ⟨Perm.fwd a.val n.val, Perm.fwd_lt a n⟩ k) := by
  have hm : ∀ j : S576.Idx, Host.reduce IntOp.andi (within (wrapped x)) (constantI S_ 1 1#1) reducesTo_S576x1_S576_d1 h_S_ j = 1#1 := fun j => by
    rw [Host.reduce_eq_foldl]
    exact all_ones _ (within_at a hx) _
  refine Eq.trans (if_pos (hm _)) (gather_at a hx P w n k)

/-! ## The results -/

/-- Eight arrays of extent 1 along the first axis, one after the other: entry `n` of the first axis is array `n`. -/
theorem stack_at {α : Type} {t s : Shape} (b : Fin t.rank) (p : Fin 8 → s.Idx → α)
    (h : Shape.Concatenates (([⟨s, p 0⟩, ⟨s, p 1⟩, ⟨s, p 2⟩, ⟨s, p 3⟩, ⟨s, p 4⟩, ⟨s, p 5⟩, ⟨s, p 6⟩, ⟨s, p 7⟩] : List ((s : Shape) × (s.Idx → α))).map (·.1)) t b)
    (hr : s.rank = t.rank) (h1 : s.size (b.cast hr.symm) = 1) (j : t.Idx) (n : Fin 8) (hn : (j b).val = n.val)
    (i : s.Idx) (hi : ∀ c : Fin s.rank, c.cast hr ≠ b → (i c).val = (j (c.cast hr)).val) :
    concatenate t b [⟨s, p 0⟩, ⟨s, p 1⟩, ⟨s, p 2⟩, ⟨s, p 3⟩, ⟨s, p 4⟩, ⟨s, p 5⟩, ⟨s, p 6⟩, ⟨s, p 7⟩] h j = p n i :=
  concatenate_ofFn_unit_apply b p h hr h1 j n hn i hi

/-- The reference's first result: in augmentation `a` image `w` has at place `m` the row of the patches that `a` shows there. -/
theorem views_at (x : S8x32x576x768.Idx) :
    res_main_v42 V x = (V (Proc.devRef .tc main_arg0) : S32x576x768.Idx → Elt F .f32) (ix3 (x 1) ⟨Perm.fwd (x 0).val (x 2).val, Perm.fwd_lt (x 0) (x 2)⟩ (x 3)) := by
  refine (stack_at (s := S1x32x576x768) (t := S8x32x576x768) 0 (fun a => broadcastInDim S1x32x576x768 ![1, 2, 3] bcast_S32x576x768_S1x32x576x768_1_2_3 (taken (V (Proc.devRef .tc main_arg0)) (wrapped (key V a))))
    _ rfl rfl x (x 0) rfl (ix4 (n0 := 1) (n1 := 32) (n2 := 576) (n3 := 768) 0 (x 1) (x 2) (x 3)) ?_).trans ?_
  · intro c hc
    match c with
    | ⟨0, _⟩ => exact absurd rfl hc
    | ⟨1, _⟩ => rfl
    | ⟨2, _⟩ => rfl
    | ⟨3, _⟩ => rfl
  · refine Eq.trans ?_ (taken_at (x 0) (key_ok V (x 0)) (V (Proc.devRef .tc main_arg0)) (x 1) (x 2) (x 3))
    refine congrArg (taken (V (Proc.devRef .tc main_arg0)) (wrapped (key V (x 0)))) (funext fun c => ?_)
    match c with
    | ⟨0, _⟩ => rfl
    | ⟨1, _⟩ => rfl
    | ⟨2, _⟩ => rfl

/-- One inverse, by sorting. -/
def order (a : Fin 8) : S1x576.Idx → BitVec 32 :=
  broadcastInDim S1x576 ![1] bcast_S576_S1x576_1 (Host.sort2 S576 0 comparator_i32_i32_d0 (key V a) (iotaInDim S576 32 0)).2

/-- The reference's row `a` of the inverses is the inverse of permutation `a`. -/
theorem order_at (a : Fin 8) (n : Fin 576) : order V a (ix2 (n0 := 1) (n1 := 576) 0 n) = BitVec.ofNat 32 (Perm.inv a.val n.val) := by
  refine Eq.trans ?_ (order_of_key a (key_ok V a) (y := iotaInDim S576 32 0) (fun _ => rfl) n)
  unfold order broadcastInDim
  refine congrArg (Host.sort2 S576 0 comparator_i32_i32_d0 (key V a) (iotaInDim S576 32 0)).2 (funext fun c => ?_)
  match c with
  | ⟨0, _⟩ => rfl

/-- The eight inverses. -/
def orders : S8x576.Idx → BitVec 32 :=
  concatenate S8x576 0 [⟨S1x576, order V 0⟩, ⟨S1x576, order V 1⟩, ⟨S1x576, order V 2⟩, ⟨S1x576, order V 3⟩, ⟨S1x576, order V 4⟩, ⟨S1x576, order V 5⟩, ⟨S1x576, order V 6⟩, ⟨S1x576, order V 7⟩]
    concatenates_S1x576_S1x576_S1x576_S1x576_S1x576_S1x576_S1x576_S1x576_S8x576_d0

/-- The reference's second result: entry `(a, n)` is the place to which augmentation `a` moves patch `n`. -/
theorem orders_at (x : S8x576.Idx) : orders V x = BitVec.ofNat 32 (Perm.inv (x 0).val (x 1).val) := by
  unfold orders
  refine (stack_at (s := S1x576) (t := S8x576) 0 (order V) _ rfl rfl x (x 0) rfl (ix2 (n0 := 1) (n1 := 576) 0 (x 1)) ?_).trans (order_at V (x 0) (x 1))
  intro c hc
  match c with
  | ⟨0, _⟩ => exact absurd rfl hc
  | ⟨1, _⟩ => rfl

/-- The reference's run: the three results as formulas of the patches, the patches unchanged. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = (fun x : S8x32x576x768.Idx => (m ((c.tc : Thread nD τ).loc main_arg0) : S32x576x768.Idx → Elt F .f32)
          (ix3 (x 1) ⟨Perm.fwd (x 0).val (x 2).val, Perm.fwd_lt (x 0) (x 2)⟩ (x 3)))
      ∧ r.2.mem ((c.tc : Thread nD τ).loc main_v51) = (fun x : S8x576.Idx => BitVec.ofNat 32 (Perm.inv (x 0).val (x 1).val))
      ∧ r.2.mem ((c.tc : Thread nD τ).loc main_v52) = iotaInDim S8 32 0
      ∧ r.2.mem ((c.tc : Thread nD τ).loc main_arg0) = m ((c.tc : Thread nD τ).loc main_arg0) :=
  (θ_run defs _ _).mono (fun _ h c => ⟨(h c).1.trans (funext fun x => views_at (launchContents m c) x),
    (h c).2.1.trans (funext fun x => orders_at (launchContents m c) x), (h c).2.2.1, (h c).2.2.2⟩) (Value.run m ρ)

end Cert.Proof.Ref

end
-- ==== Proof.lean ====
/- The proof of the certificate: the kernel's run and the reference's, and the two compared. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Views
public import proofs.«01_k».proof.Proof.RefValue
public import Idealize.ShloMosaic.Lib.Quiescent

@[expose] public section

noncomputable section

namespace Cert.Proof

open Idealize.ShloMosaic Idealize.SL.Sem Idealize.ShloMosaic.ValueIdx

set_option maxHeartbeats 4000000 in
/-- The kernel stops without fault on every input, leaves the patches as they were and every counter at zero. -/
theorem frame_kernel : Cert.quiescent_Kernel := fun m ρ _ =>
  (θ_run Cert.KernelIdeal.defs _ _).mono (fun _ h => ⟨fun c => (h.1 c).1, h.2⟩) (Launch.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).1, h.2⟩) (Launch.run_main (F := Ideal) m ρ)

/-- The same of the reference over the extended reals. -/
theorem frame_reference : Cert.quiescent_ReferenceIdeal := fun m ρ _ =>
  (θ_run Cert.ReferenceIdeal.defs _ _).mono (fun _ h => ⟨fun c => (h c).2.2.2, sem_eq_zero_of_no_sems rfl _⟩) (Ref.run_values (F := Ideal) m ρ)

/-- From the same patches the kernel and the reference compute the same three results over the extended reals. -/
theorem algebraic : Cert.algebraic_KernelIdeal_ReferenceIdeal := fun m ρ m' ρ' _ hm =>
  ⟨fun c => Launch.views (F := Ideal) (m (Launch.aLoc c)), fun _ => Tile.invGoal (F := Ideal), fun _ => iotaInDim Cert.KernelIdeal.S8 32 0,
    (θ_run Cert.KernelIdeal.defs _ _).mono (fun _ h c => ⟨(h.1 c).2.2.1, (h.1 c).2.1, (h.1 c).2.2.2, (h.1 c).1⟩) (Launch.run_main (F := Ideal) m ρ),
    (θ_run Cert.ReferenceIdeal.defs _ _).mono (fun _ h c => ⟨(h c).1.trans (funext fun x =>
        (congrFun (hm c) _).trans (Launch.views_at (F := Ideal) (m (Launch.aLoc c)) x).symm), (h c).2.1, (h c).2.2.1, (h c).2.2.2⟩) (Ref.run_values (F := Ideal) m' ρ')⟩

/-- The certificate: the three frames, that no operation is rewritten, and that both programs give the same results. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
